-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S16x128x2048 : Shape := ⟨3, ![16, 128, 2048]⟩
abbrev S10 : Shape := ⟨1, ![10]⟩
abbrev S128 : Shape := ⟨1, ![128]⟩
abbrev S_ : Shape := ⟨0, ![]⟩

class Facts : Prop where
  bcast_S_S16x128x2048 : S_.BroadcastsInDim S16x128x2048 (![] : Fin 0 → Fin S16x128x2048.rank)
  bcast_S_S10 : S_.BroadcastsInDim S10 (![] : Fin 0 → Fin S10.rank)
  bcast_S_S128 : S_.BroadcastsInDim S128 (![] : Fin 0 → Fin S128.rank)

variable [Facts]

def fn {F : FTy → Type} [FloatOps F] (main_arg0 : FVec F S16x128x2048 .f32) (main_arg1 : FVec F S10 .f32) (main_arg2 : FVec F S128 .f32) (main_arg3 : FVec F S128 .f32) (main_arg4 : FVec F S128 .f32) : IVec S16x128x2048 1 × IVec S10 1 × IVec S128 1 :=
  let main_cst : FVec F S_ .f32 := constant S_ .f32 0x00000000#32
  let main_v0 : FVec F S16x128x2048 .f32 := broadcastInDim S16x128x2048 ![] bcast_S_S16x128x2048 main_cst
  let main_v1 : IVec S16x128x2048 1 := cmpf .oge main_arg0 main_v0
  let main_cst_0 : FVec F S_ .f32 := constant S_ .f32 0x00000000#32
  let main_v2 : FVec F S10 .f32 := broadcastInDim S10 ![] bcast_S_S10 main_cst_0
  let main_v3 : IVec S10 1 := cmpf .ole main_arg1 main_v2
  let main_v4 : FVec F S128 .f32 := Host.exp main_arg4
  let main_cst_1 : FVec F S_ .f32 := constant S_ .f32 0x3E800000#32
  let main_v5 : FVec F S128 .f32 := broadcastInDim S128 ![] bcast_S_S128 main_cst_1
  let main_v6 : IVec S128 1 := cmpf .oeq main_v4 main_v5
  (main_v1, main_v3, main_v6)
-- ==== Kernel.lean ====
abbrev S16x128x2048 : Shape := ⟨3, ![16, 128, 2048]⟩
abbrev S10 : Shape := ⟨1, ![10]⟩
abbrev S128 : Shape := ⟨1, ![128]⟩
abbrev S1x10 : Shape := ⟨2, ![1, 10]⟩
abbrev S1x128 : Shape := ⟨2, ![1, 128]⟩
abbrev S16x10x128x2048 : Shape := ⟨4, ![16, 10, 128, 2048]⟩
abbrev S8x128x256 : Shape := ⟨3, ![8, 128, 256]⟩
abbrev S8x10x128x256 : Shape := ⟨4, ![8, 10, 128, 256]⟩
abbrev S256x1408 : Shape := ⟨2, ![256, 1408]⟩
abbrev S1024x256 : Shape := ⟨2, ![1024, 256]⟩
abbrev S128x128 : Shape := ⟨2, ![128, 128]⟩
abbrev S128x1 : Shape := ⟨2, ![128, 1]⟩
abbrev S1x1 : Shape := ⟨2, ![1, 1]⟩
abbrev S1024x1 : Shape := ⟨2, ![1024, 1]⟩
abbrev S1024x128 : Shape := ⟨2, ![1024, 128]⟩
abbrev S1x128x1 : Shape := ⟨3, ![1, 128, 1]⟩
abbrev S1024x1408 : Shape := ⟨2, ![1024, 1408]⟩
abbrev S8x128x128 : Shape := ⟨3, ![8, 128, 128]⟩
abbrev S8x1x128x128 : Shape := ⟨4, ![8, 1, 128, 128]⟩

abbrev nBuf : Space → Nat
  | .hbm => 10
  | .vmem => 10
  | .smem => 0
  | _ => 0

abbrev bufTy : (tb : Table) → Fin (tcTables nBuf tb) → BufTy
  | .hbm, ⟨0, _⟩ => ⟨S16x128x2048, .f32⟩
  | .hbm, ⟨1, _⟩ => ⟨S10, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S1x10, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S16x10x128x2048, .f32⟩
  | .local _ .vmem, ⟨0, _⟩ => ⟨S1x10, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S8x128x256, .f32⟩
  | .local _ .vmem, ⟨5, _⟩ => ⟨S8x128x256, .f32⟩
  | .local _ .vmem, ⟨6, _⟩ => ⟨S8x10x128x256, .f32⟩
  | .local _ .vmem, ⟨7, _⟩ => ⟨S8x10x128x256, .f32⟩
  | .local _ .vmem, ⟨8, _⟩ => ⟨S256x1408, .f32⟩
  | .local _ .vmem, ⟨9, _⟩ => ⟨S1024x256, .f32⟩
  | _, _ => ⟨S16x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 1 → Memref sig .tc .vmem S1x10 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x10x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "inv_ln2" => some (((Real.log 2)⁻¹ : ℝ) : EReal)
  | _ => none
-- ==== ReferenceIdeal.lean ====
abbrev S16x128x2048 : Shape := ⟨3, ![16, 128, 2048]⟩
abbrev S10 : Shape := ⟨1, ![10]⟩
abbrev S128 : Shape := ⟨1, ![128]⟩
abbrev S10x1x1 : Shape := ⟨3, ![10, 1, 1]⟩
abbrev S128x1 : Shape := ⟨2, ![128, 1]⟩
abbrev S2048x16x128 : Shape := ⟨3, ![2048, 16, 128]⟩
abbrev S1x16x128 : Shape := ⟨3, ![1, 16, 128]⟩
abbrev S16x128 : Shape := ⟨2, ![16, 128]⟩
abbrev S10x16x128 : Shape := ⟨3, ![10, 16, 128]⟩
abbrev S2047x16x128 : Shape := ⟨3, ![2047, 16, 128]⟩
abbrev S_ : Shape := ⟨0, ![]⟩
abbrev S2047x10x16x128 : Shape := ⟨4, ![2047, 10, 16, 128]⟩
abbrev S1x10x16x128 : Shape := ⟨4, ![1, 10, 16, 128]⟩
abbrev S2048x10x16x128 : Shape := ⟨4, ![2048, 10, 16, 128]⟩
abbrev S10x16x128x2048 : Shape := ⟨4, ![10, 16, 128, 2048]⟩
abbrev S1x1x128x1 : Shape := ⟨4, ![1, 1, 128, 1]⟩
abbrev S1x16x128x2048 : Shape := ⟨4, ![1, 16, 128, 2048]⟩
abbrev S16x10x128x2048 : Shape := ⟨4, ![16, 10, 128, 2048]⟩

abbrev nBuf : Space → Nat
  | .hbm => 82
  | .vmem => 0
  | .smem => 0
  | _ => 0

abbrev bufTy : (tb : Table) → Fin (tcTables nBuf tb) → BufTy
  | .hbm, ⟨0, _⟩ => ⟨S16x128x2048, .f32⟩
  | .hbm, ⟨1, _⟩ => ⟨S10, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S10, .f32⟩
  | .hbm, ⟨6, _⟩ => ⟨S10x1x1, .f32⟩
  | .hbm, ⟨7, _⟩ => ⟨S128, .f32⟩
  | .hbm, ⟨8, _⟩ => ⟨S128x1, .f32⟩
  | .hbm, ⟨9, _⟩ => ⟨S128, .f32⟩
  | .hbm, ⟨10, _⟩ => ⟨S128x1, .f32⟩
  | .hbm, ⟨11, _⟩ => ⟨S128, .f32⟩
  | .hbm, ⟨12, _⟩ => ⟨S128x1, .f32⟩
  | .hbm, ⟨13, _⟩ => ⟨S2048x16x128, .f32⟩
  | .hbm, ⟨14, _⟩ => ⟨S1x16x128, .f32⟩
  | .hbm, ⟨15, _⟩ => ⟨S16x128, .f32⟩
  | .hbm, ⟨16, _⟩ => ⟨S1x16x128, .f32⟩
  | .hbm, ⟨17, _⟩ => ⟨S1x16x128, .f32⟩
  | .hbm, ⟨18, _⟩ => ⟨S16x128, .f32⟩
  | .hbm, ⟨19, _⟩ => ⟨S10x16x128, .f32⟩
  | .hbm, ⟨20, _⟩ => ⟨S2047x16x128, .f32⟩
  | .hbm, ⟨21, _⟩ => ⟨S_, .f32⟩
  | .hbm, ⟨22, _⟩ => ⟨S2047x10x16x128, .f32⟩
  | .hbm, ⟨23, _⟩ => ⟨S_, .i32⟩
  | .hbm, ⟨24, _⟩ => ⟨S2047x16x128, .f32⟩
  | .hbm, ⟨25, _⟩ => ⟨S10x1x1, .f32⟩
  | .hbm, ⟨26, _⟩ => ⟨S_, .i32⟩
  | .hbm, ⟨27, _⟩ => ⟨S10x16x128, .f32⟩
  | .hbm, ⟨28, _⟩ => ⟨S2047x10x16x128, .f32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S1x16x128, .f32⟩
  | .hbm, ⟨34, _⟩ => ⟨S16x128, .f32⟩
  | .hbm, ⟨35, _⟩ => ⟨S_, .f32⟩
  | .hbm, ⟨36, _⟩ => ⟨S10x1x1, .f32⟩
  | .hbm, ⟨37, _⟩ => ⟨S10x1x1, .f32⟩
  | .hbm, ⟨38, _⟩ => ⟨S10x16x128, .f32⟩
  | .hbm, ⟨39, _⟩ => ⟨S10x16x128, .f32⟩
  | .hbm, ⟨40, _⟩ => ⟨S1x16x128, .f32⟩
  | .hbm, ⟨41, _⟩ => ⟨S10x16x128, .f32⟩
  | .hbm, ⟨42, _⟩ => ⟨S10x16x128, .f32⟩
  | .hbm, ⟨43, _⟩ => ⟨S10x16x128, .f32⟩
  | .hbm, ⟨44, _⟩ => ⟨S10x16x128, .f32⟩
  | .hbm, ⟨45, _⟩ => ⟨S1x10x16x128, .f32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S2047x10x16x128, .f32⟩
  | .hbm, ⟨50, _⟩ => ⟨S_, .i32⟩
  | .hbm, ⟨51, _⟩ => ⟨S_, .i32⟩
  | .hbm, ⟨52, _⟩ => ⟨S1x10x16x128, .f32⟩
  | .hbm, ⟨53, _⟩ => ⟨S2048x10x16x128, .f32⟩
  | .hbm, ⟨54, _⟩ => ⟨S10x16x128x2048, .f32⟩
  | .hbm, ⟨55, _⟩ => ⟨S_, .f32⟩
  | .hbm, ⟨56, _⟩ => ⟨S_, .f32⟩
  | .hbm, ⟨57, _⟩ => ⟨S128x1, .f32⟩
  | .hbm, ⟨58, _⟩ => ⟨S_, .f32⟩
  | .hbm, ⟨59, _⟩ => ⟨S10x16x128x2048, .f32⟩
  | .hbm, ⟨60, _⟩ => ⟨S10x16x128x2048, .f32⟩
  | .hbm, ⟨61, _⟩ => ⟨S10x16x128x2048, .f32⟩
  | .hbm, ⟨62, _⟩ => ⟨S10x16x128x2048, .f32⟩
  | .hbm, ⟨63, _⟩ => ⟨S10x16x128x2048, .f32⟩
  | .hbm, ⟨64, _⟩ => ⟨S1x1x128x1, .f32⟩
  | .hbm, ⟨65, _⟩ => ⟨S10x16x128x2048, .f32⟩
  | .hbm, ⟨66, _⟩ => ⟨S10x16x128x2048, .f32⟩
  | .hbm, ⟨67, _⟩ => ⟨S10x16x128x2048, .f32⟩
  | .hbm, ⟨68, _⟩ => ⟨S1x16x128x2048, .f32⟩
  | .hbm, ⟨69, _⟩ => ⟨S10x16x128x2048, .f32⟩
  | .hbm, ⟨70, _⟩ => ⟨S10x16x128x2048, .f32⟩
  | .hbm, ⟨71, _⟩ => ⟨S1x1x128x1, .f32⟩
  | .hbm, ⟨72, _⟩ => ⟨S10x16x128x2048, .f32⟩
  | .hbm, ⟨73, _⟩ => ⟨S10x16x128x2048, .f32⟩
  | .hbm, ⟨74, _⟩ => ⟨S1x1x128x1, .f32⟩
  | .hbm, ⟨75, _⟩ => ⟨S10x16x128x2048, .f32⟩
  | .hbm, ⟨76, _⟩ => ⟨S10x16x128x2048, .f32⟩
  | .hbm, ⟨77, _⟩ => ⟨S128x1, .f32⟩
  | .hbm, ⟨78, _⟩ => ⟨S1x1x128x1, .f32⟩
  | .hbm, ⟨79, _⟩ => ⟨S10x16x128x2048, .f32⟩
  | .hbm, ⟨80, _⟩ => ⟨S10x16x128x2048, .f32⟩
  | .hbm, ⟨81, _⟩ => ⟨S16x10x128x2048, .f32⟩
  | _, _ => ⟨S16x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_c : Ref sig .tc := ⟨.hbm, 23, rfl⟩
abbrev main_v17_0 : Ref sig .tc := ⟨.hbm, 24, rfl⟩
abbrev main_v17_1 : Ref sig .tc := ⟨.hbm, 25, rfl⟩
abbrev main_v17_2 : Ref sig .tc := ⟨.hbm, 26, rfl⟩
abbrev main_v17_3 : Ref sig .tc := ⟨.hbm, 27, rfl⟩
abbrev main_v17_4 : Ref sig .tc := ⟨.hbm, 28, rfl⟩
abbrev main_while0c_c_6 : Ref sig .tc := ⟨.hbm, 29, rfl⟩
abbrev main_while0c_v46 : Ref sig .tc := ⟨.hbm, 30, rfl⟩
abbrev main_while0b_call0_c : Ref sig .tc := ⟨.hbm, 31, rfl⟩
abbrev main_while0b_call0_c_0 : Ref sig .tc := ⟨.hbm, 32, rfl⟩
abbrev main_while0b_call0_v0 : Ref sig .tc := ⟨.hbm, 33, rfl⟩
abbrev main_while0b_v46 : Ref sig .tc := ⟨.hbm, 34, rfl⟩
abbrev main_while0b_cst_6 : Ref sig .tc := ⟨.hbm, 35, rfl⟩
abbrev main_while0b_v47 : Ref sig .tc := ⟨.hbm, 36, rfl⟩
abbrev main_while0b_v48 : Ref sig .tc := ⟨.hbm, 37, rfl⟩
abbrev main_while0b_v49 : Ref sig .tc := ⟨.hbm, 38, rfl⟩
abbrev main_while0b_v50 : Ref sig .tc := ⟨.hbm, 39, rfl⟩
abbrev main_while0b_v51 : Ref sig .tc := ⟨.hbm, 40, rfl⟩
abbrev main_while0b_v52 : Ref sig .tc := ⟨.hbm, 41, rfl⟩
abbrev main_while0b_v53 : Ref sig .tc := ⟨.hbm, 42, rfl⟩
abbrev main_while0b_v54 : Ref sig .tc := ⟨.hbm, 43, rfl⟩
abbrev main_while0b_v55 : Ref sig .tc := ⟨.hbm, 44, rfl⟩
abbrev main_while0b_call1_v0 : Ref sig .tc := ⟨.hbm, 45, rfl⟩
abbrev main_while0b_call1_c : Ref sig .tc := ⟨.hbm, 46, rfl⟩
abbrev main_while0b_call1_c_0 : Ref sig .tc := ⟨.hbm, 47, rfl⟩
abbrev main_while0b_call1_c_1 : Ref sig .tc := ⟨.hbm, 48, rfl⟩
abbrev main_while0b_v56 : Ref sig .tc := ⟨.hbm, 49, rfl⟩
abbrev main_while0b_c_7 : Ref sig .tc := ⟨.hbm, 50, rfl⟩
abbrev main_while0b_v57 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst_0 : Ref sig .tc := ⟨.hbm, 55, rfl⟩
abbrev main_v21 : Ref sig .tc := ⟨.hbm, 56, rfl⟩
abbrev main_v22 : Ref sig .tc := ⟨.hbm, 57, rfl⟩
abbrev main_cst_1 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩

abbrev nD : Nat := 1
abbrev τ : Topo := Topo.v7x

variable {F : FTy → Type} [FloatOps F]

abbrev main_while0_count : Scf.Loop 32 := ⟨0#32, 2047#32, 1#32⟩
-- ==== Proof.Math.lean ====
module

public import Idealize.ShloMosaic.PureOps.Ideal.Laws
public import Mathlib.Analysis.SpecialFunctions.Pow.Real
public import Mathlib.Data.EReal.Inv

/-! The extended-real facts behind the kernel: a smoothing constant is a real number between zero and one, the
exponentials of multiples of `log1p (-s)` are powers of `1 - s`, a block of 128 steps of the smoothing recursion is one
row of sums, and the kernel's base-two and reciprocal-root forms are the reference's exponential and power. -/

@[expose] public section
noncomputable section
namespace Cert.Pcen
open Idealize.ShloMosaic

/-- The exponential is never negative. -/
theorem exp_nonneg (a : EReal) : 0 ≤ Ideal.exp a := by
  induction a using EReal.rec with
  | bot => exact le_refl _
  | top => exact le_top
  | coe r => exact EReal.coe_nonneg.mpr (Real.exp_pos r).le

/-- The exponential of something at most zero is a real number between zero and one. -/
theorem exp_unit {a : EReal} (h : a ≤ 0) : ∃ r : ℝ, 0 ≤ r ∧ r ≤ 1 ∧ Ideal.exp a = (r : EReal) := by
  induction a using EReal.rec with
  | bot => exact ⟨0, le_refl _, zero_le_one, rfl⟩
  | top => exact absurd h (by simp)
  | coe r => exact ⟨Real.exp r, (Real.exp_pos r).le, Real.exp_le_one_iff.mpr (EReal.coe_nonpos.mp h), rfl⟩

/-- The exponential of `n` times `log1p (-s)` is the `n`-th power of `1 - s`. -/
theorem exp_nat_log1p {r : ℝ} (h1 : r ≤ 1) (n : ℕ) :
    Ideal.exp (((n : ℝ) : EReal) * Ideal.log1p (0 - (r : EReal))) = (((1 - r) ^ n : ℝ) : EReal) := by
  have e : Ideal.log1p (0 - (r : EReal)) = Ideal.log (((1 - r : ℝ)) : EReal) := by
    unfold Ideal.log1p
    congr 1
    rw [zero_sub, ← sub_eq_add_neg, EReal.coe_sub, EReal.coe_one]
  rw [e]
  show Ideal.exp (((n : ℝ) : EReal) * (if 1 - r ≤ 0 then ⊥ else (Real.log (1 - r) : EReal))) = _
  split_ifs with hr
  · have hw : 1 - r = 0 := le_antisymm hr (by linarith)
    rw [hw]
    rcases Nat.eq_zero_or_pos n with rfl | hn
    · simp only [Nat.cast_zero, EReal.coe_zero, zero_mul, pow_zero]
      show ((Real.exp 0 : ℝ) : EReal) = _
      rw [Real.exp_zero]
    · rw [EReal.coe_mul_bot_of_pos (by exact_mod_cast hn), zero_pow hn.ne']
      rfl
  · rw [← EReal.coe_mul]
    show ((Real.exp ((n : ℝ) * Real.log (1 - r)) : ℝ) : EReal) = _
    rw [mul_comm, Real.exp_mul, Real.exp_log (not_le.mp hr), Real.rpow_natCast]

/-- Base two over a scaled logarithm is the natural exponential. -/
theorem exp2_mul_inv_log (a b : EReal) :
    Ideal.exp2 (a * (b * (((Real.log 2)⁻¹ : ℝ) : EReal))) = Ideal.exp (a * b) := by
  have hl : 0 < Real.log 2 := Real.log_pos one_lt_two
  rw [← mul_assoc]
  generalize a * b = y
  induction y using EReal.rec with
  | bot => rw [EReal.bot_mul_coe_of_pos (inv_pos.mpr hl)]; rfl
  | top => rw [EReal.top_mul_coe_of_pos (inv_pos.mpr hl)]; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = _
    rw [Real.rpow_def_of_pos two_pos]
    congr 1
    field_simp

/-- Adding a positive constant inside a logarithm, against `log1p` of the quotient. -/
theorem log_add_log1p {e : ℝ} (he : 0 < e) {m : EReal} (hm : 0 ≤ m) :
    Ideal.log (e : EReal) + Ideal.log1p (Ideal.div m (e : EReal)) = Ideal.log (m + (e : EReal)) := by
  have h0 : ((e : ℝ) : EReal) ≠ 0 := by exact_mod_cast he.ne'
  have hlog : Ideal.log (e : EReal) = ((Real.log e : ℝ) : EReal) := by
    show (if e ≤ 0 then ⊥ else (Real.log e : EReal)) = _
    rw [if_neg (not_le.mpr he)]
  unfold Ideal.log1p Ideal.div
  rw [if_neg h0, hlog, ← EReal.coe_inv]
  induction m using EReal.rec with
  | bot => exact absurd hm (by simp)
  | top =>
    rw [EReal.top_mul_coe_of_pos (inv_pos.mpr he), EReal.top_add_coe]
    show _ + Ideal.log (((1 : ℝ) : EReal) + ⊤) = _
    rw [EReal.coe_add_top]
    exact EReal.coe_add_top _
  | coe r =>
    have hr : 0 ≤ r := EReal.coe_nonneg.mp hm
    rw [← EReal.coe_mul, ← EReal.coe_one, ← EReal.coe_add, ← EReal.coe_add]
    have h1 : 0 < 1 + r * e⁻¹ := by positivity
    have h2 : 0 < r + e := by positivity
    show _ + (if 1 + r * e⁻¹ ≤ 0 then ⊥ else (Real.log (1 + r * e⁻¹) : EReal)) = (if r + e ≤ 0 then ⊥ else (Real.log (r + e) : EReal))
    rw [if_neg (not_le.mpr h1), if_neg (not_le.mpr h2), ← EReal.coe_add, ← Real.log_mul he.ne' h1.ne']
    congr 2
    field_simp
    ring

/-- Two reciprocal square roots are the fourth root. -/
theorem rsqrt_rsqrt {y : EReal} (hy : 0 ≤ y) :
    Ideal.rsqrt (Ideal.rsqrt y) = Ideal.pow y (((1 / 4 : ℝ)) : EReal) := by
  induction y using EReal.rec with
  | bot => exact absurd hy (by simp)
  | top =>
    show Ideal.rsqrt ((0 : ℝ) : EReal) = if 0 < (((1 / 4 : ℝ)) : EReal) then ⊤ else _
    rw [if_pos (by exact_mod_cast (by norm_num : (0 : ℝ) < 1 / 4))]
    show (if (0 : ℝ) < 0 then ⊥ else if (0 : ℝ) = 0 then ⊤ else _) = _
    simp
  | coe r =>
    have hr : 0 ≤ r := EReal.coe_nonneg.mp hy
    show Ideal.rsqrt (if r < 0 then ⊥ else if r = 0 then ⊤ else (((Real.sqrt r)⁻¹ : ℝ) : EReal)) = ((r ^ (1 / 4 : ℝ) : ℝ) : EReal)
    rw [if_neg (not_lt.mpr hr)]
    split_ifs with h0
    · rw [h0, Real.zero_rpow (by norm_num)]
      rfl
    · have hp : 0 < r := lt_of_le_of_ne hr (Ne.symm h0)
      have hs : 0 < (Real.sqrt r)⁻¹ := inv_pos.mpr (Real.sqrt_pos.mpr hp)
      show (if (Real.sqrt r)⁻¹ < 0 then ⊥ else if (Real.sqrt r)⁻¹ = 0 then ⊤ else (((Real.sqrt (Real.sqrt r)⁻¹)⁻¹ : ℝ) : EReal)) = _
      rw [if_neg (not_lt.mpr hs.le), if_neg hs.ne']
      congr 1
      rw [Real.sqrt_inv, inv_inv, Real.sqrt_eq_rpow, Real.sqrt_eq_rpow, ← Real.rpow_mul hr]
      norm_num

/-- The exponential of a quarter of a logarithm is the fourth root. -/
theorem exp_quarter_log {d : EReal} (hd : 0 ≤ d) :
    Ideal.exp ((((1 / 4 : ℝ)) : EReal) * Ideal.log d) = Ideal.pow d (((1 / 4 : ℝ)) : EReal) := by
  have hq : (0 : ℝ) < 1 / 4 := by norm_num
  induction d using EReal.rec with
  | bot => exact absurd hd (by simp)
  | top =>
    show Ideal.exp (_ * ⊤) = if 0 < (((1 / 4 : ℝ)) : EReal) then ⊤ else _
    rw [if_pos (by exact_mod_cast hq), EReal.coe_mul_top_of_pos hq]
    rfl
  | coe r =>
    have hr : 0 ≤ r := EReal.coe_nonneg.mp hd
    show Ideal.exp (_ * (if r ≤ 0 then ⊥ else (Real.log r : EReal))) = ((r ^ (1 / 4 : ℝ) : ℝ) : EReal)
    split_ifs with h0
    · rw [le_antisymm h0 hr, Real.zero_rpow hq.ne', EReal.coe_mul_bot_of_pos hq]
      rfl
    · rw [← EReal.coe_mul]
      show ((Real.exp (1 / 4 * Real.log r) : ℝ) : EReal) = _
      rw [mul_comm, Real.exp_mul, Real.exp_log (not_le.mp h0)]

/-- One output of the reference: the input scaled by a power of its smoothed value, offset, and raised to a power. -/
def pcen (e m x alpha delta r : EReal) : EReal :=
  Ideal.pow (x * Ideal.exp (-alpha * (Ideal.log e + Ideal.log1p (Ideal.div m e))) + delta) r - Ideal.pow delta r

/-- The kernel's form of one output is the reference's, at a fourth power. -/
theorem kernel_pcen {e : ℝ} (he : 0 < e) {m x alpha delta r : EReal} (hm : 0 ≤ m) (hx : 0 ≤ x) (hd : 0 ≤ delta)
    (hr : r = (((1 / 4 : ℝ)) : EReal)) :
    Ideal.rsqrt (Ideal.rsqrt (x * Ideal.exp2 ((0 - alpha) * (Ideal.log (m + (e : EReal)) * (((Real.log 2)⁻¹ : ℝ) : EReal))) + delta))
      - Ideal.exp2 (r * (Ideal.log delta * (((Real.log 2)⁻¹ : ℝ) : EReal))) = pcen e m x alpha delta r := by
  unfold pcen
  rw [exp2_mul_inv_log, exp2_mul_inv_log, zero_sub, log_add_log1p he hm, hr, exp_quarter_log hd,
    rsqrt_rsqrt (add_nonneg (mul_nonneg hx (exp_nonneg _)) hd)]

/-- The smoothing recursion: it starts at the first sample and moves a share `s` of the way at each later one. -/
def smo (s : EReal) (x : ℕ → EReal) : ℕ → EReal
  | 0 => x 0
  | t + 1 => (1 - s) * smo s x t + s * x (t + 1)

section Block
variable {r : ℝ} (h0 : 0 ≤ r) (h1 : r ≤ 1)
include h0 h1

theorem one_sub_coe : (1 : EReal) - (r : EReal) = ((1 - r : ℝ) : EReal) := by
  rw [EReal.coe_sub, EReal.coe_one]

/-- The smoothed values of a signal that is never negative are never negative. -/
theorem smo_nonneg {x : ℕ → EReal} (hx : ∀ t, 0 ≤ x t) (t : ℕ) : 0 ≤ smo r x t := by
  have hw : (0 : EReal) ≤ 1 - (r : EReal) := by
    rw [one_sub_coe h0 h1]; exact EReal.coe_nonneg.mpr (by linarith)
  induction t with
  | zero => exact hx 0
  | succ t ih => exact add_nonneg (mul_nonneg hw ih) (mul_nonneg (EReal.coe_nonneg.mpr h0) (hx _))

/-- A factor that is a real number at least zero goes into a sum of values at least zero. -/
theorem coe_mul_sum {c : ℝ} (hc : 0 ≤ c) (S : Finset ℕ) (f : ℕ → EReal) (hf : ∀ j, 0 ≤ f j) :
    (c : EReal) * ∑ j ∈ S, f j = ∑ j ∈ S, (c : EReal) * f j := by
  classical
  induction S using Finset.induction_on with
  | empty => simp
  | insert a S ha ih =>
    rw [Finset.sum_insert ha, Finset.sum_insert ha, ← ih]
    exact EReal.left_distrib_of_nonneg (hf a) (Finset.sum_nonneg fun j _ => hf j)

/-- What a block's sums are: the incoming smoothed value faded, plus the block's samples faded. -/
def blk (r : ℝ) (C : EReal) (x : ℕ → EReal) (i : ℕ) : EReal :=
  C * (((1 - r) ^ (i + 1) : ℝ) : EReal) + ∑ j ∈ Finset.range (i + 1), x j * (((r * (1 - r) ^ (i - j) : ℝ)) : EReal)

/-- One more step of a block is one step of the recursion. -/
theorem blk_succ {C : EReal} (hC : 0 ≤ C) {x : ℕ → EReal} (hx : ∀ t, 0 ≤ x t) (i : ℕ) :
    blk r C x (i + 1) = (1 - (r : EReal)) * blk r C x i + r * x (i + 1) := by
  have hw : 0 ≤ 1 - r := by linarith
  have hc : ∀ n : ℕ, (0 : EReal) ≤ ((r * (1 - r) ^ n : ℝ) : EReal) := fun n => EReal.coe_nonneg.mpr (by positivity)
  have hp : ∀ n : ℕ, (0 : EReal) ≤ (((1 - r) ^ n : ℝ) : EReal) := fun n => EReal.coe_nonneg.mpr (by positivity)
  unfold blk
  rw [one_sub_coe h0 h1, EReal.left_distrib_of_nonneg (mul_nonneg hC (hp _))
    (Finset.sum_nonneg fun j _ => mul_nonneg (hx j) (hc _)), coe_mul_sum h0 h1 hw _ _ (fun j => mul_nonneg (hx j) (hc _)),
    Finset.sum_range_succ _ (i + 1), ← add_assoc]
  congr 1
  · congr 1
    · rw [mul_left_comm, ← EReal.coe_mul, ← pow_succ']
    · refine Finset.sum_congr rfl fun j hj => ?_
      have hj' : j ≤ i := Nat.lt_succ_iff.mp (Finset.mem_range.mp hj)
      rw [mul_left_comm, ← EReal.coe_mul, mul_left_comm (1 - r) r, ← pow_succ', Nat.succ_sub hj']
  · rw [Nat.sub_self, pow_zero, mul_one, mul_comm]

/-- A block whose first step is on the recursion is on it throughout. -/
theorem blk_eq_smo {C : EReal} (hC : 0 ≤ C) {x : ℕ → EReal} (hx : ∀ t, 0 ≤ x t) (t0 : ℕ)
    (hstart : (1 - (r : EReal)) * C + r * x t0 = smo r x t0) (i : ℕ) :
    blk r C (fun j => x (t0 + j)) i = smo r x (t0 + i) := by
  induction i with
  | zero =>
    rw [add_zero, ← hstart]
    unfold blk
    rw [one_sub_coe h0 h1]
    simp only [zero_add, Finset.sum_range_one, Nat.sub_self, pow_zero, mul_one, pow_one, add_zero]
    rw [mul_comm C, mul_comm (x t0)]
  | succ i ih =>
    rw [blk_succ h0 h1 hC (fun t => hx _), ih]
    rfl

/-- At the first sample the block may start from that sample itself. -/
theorem start_zero {x : ℕ → EReal} (hx : ∀ t, 0 ≤ x t) : (1 - (r : EReal)) * x 0 + r * x 0 = smo r x 0 := by
  have hw : (0 : EReal) ≤ 1 - (r : EReal) := by
    rw [one_sub_coe h0 h1]; exact EReal.coe_nonneg.mpr (by linarith)
  rw [← EReal.right_distrib_of_nonneg hw (EReal.coe_nonneg.mpr h0), one_sub_coe h0 h1, ← EReal.coe_add]
  simp [smo]

end Block
end Cert.Pcen
end
end
-- ==== Proof.UVal.lean ====
module

public import proofs.«01_k».proof.Proof.Math
public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.WholeRead

/-! The block matrix that the kernel builds at the first point of each run of time blocks: what each of its 41 stores
holds, for every channel at once, and the matrix in closed form. -/

@[expose] public section
set_option maxRecDepth 16384
noncomputable section
namespace Cert.Pcen
open Cert.KernelIdeal Cert.KernelIdeal.Gen Idealize.ShloMosaic Idealize.ShloMosaic.TcCoe Idealize.SL.Sem

/-- One channel of a row of ten. -/
theorem slice_ok (k : Fin 10) : S1x10.Slices ![0, k.val] S1x1 :=
  ⟨rfl, fun a => by have := k.isLt; match a with | ⟨0, _⟩ => exact (by decide : 0 + 1 ≤ 1) | ⟨1, _⟩ => show k.val + 1 ≤ 10; omega⟩

/-- The smoothing constant of channel `k`, from the row of logarithms. -/
def sK (x0 : Vec Ideal S1x10 .f32) (k : Fin 10) : FVec Ideal S1x1 .f32 :=
  extractStridedSlice S1x1 ![0, k.val] (k0_pay3 x0) (slice_ok k)

/-- The logarithm of one minus the smoothing constant of channel `k`. -/
def laK (x0 : Vec Ideal S1x10 .f32) (k : Fin 10) : FVec Ideal S1x1 .f32 :=
  extractStridedSlice S1x1 ![0, k.val] (k0_pay4 x0) (slice_ok k)

/-- A channel's triangle: what each sample adds to each later output. -/
def tapP (s la : FVec Ideal S1x1 .f32) : FVec Ideal S128x128 .f32 :=
  shapeCast S128x128 (select (cmpi .sge (iota .tc S128x128 32 [1] iota_S128x128_d1_w32) (iota .tc S128x128 32 [0] iota_S128x128_d0_w32))
    (mulf (broadcastTo S128x128 s broadcasts_S1x1_S128x128) (exp (mulf (k0_pay5 (F := Ideal)) (broadcastTo S128x128 la broadcasts_S1x1_S128x128))))
    (broadcast S128x128 (Scalar.ofBits .f32 0x00000000#32))) shapeCasts_S128x128_S128x128

/-- A channel's row: what the incoming state adds to each output. -/
def rowP (la : FVec Ideal S1x1 .f32) : FVec Ideal S1x128 .f32 :=
  shapeCast S1x128 (exp (mulf (addf (k0_pay6 (F := Ideal)) (broadcast S1x128 (Scalar.ofBits .f32 0x3F800000#32)))
    (broadcastTo S1x128 la broadcasts_S1x1_S1x128))) shapeCasts_S1x128_S1x128

/-- A channel's column: what each sample adds to the outgoing state. -/
def colP (s la : FVec Ideal S1x1 .f32) : FVec Ideal S128x1 .f32 :=
  shapeCast S128x1 (mulf (broadcastTo S128x1 s broadcasts_S1x1_S128x1)
    (exp (mulf (subf (broadcast S128x1 (Scalar.ofBits .f32 0x42FE0000#32)) (k0_pay7 (F := Ideal))) (broadcastTo S128x1 la broadcasts_S1x1_S128x1))))
    shapeCasts_S128x1_S128x1

/-- A channel's corner row: what the incoming state adds to the outgoing one, on its own lane. -/
def laneP (k : Fin 10) (la : FVec Ideal S1x1 .f32) : FVec Ideal S1x128 .f32 :=
  shapeCast S1x128 (select (cmpi .eq (iota .tc S1x128 32 [1] iota_S1x128_d1_w32) (broadcast S1x128 (BitVec.ofNat 32 k.val)))
    (broadcastTo S1x128 (shapeCast S1x1 (exp (mulf (broadcast S1x1 (Scalar.ofBits .f32 0x43000000#32)) la)) shapeCasts_S1x1_S1x1) broadcasts_S1x1_S1x128)
    (broadcast S1x128 (Scalar.ofBits .f32 0x00000000#32))) shapeCasts_S1x128_S1x128

theorem sK_apply (x0 : Vec Ideal S1x10 .f32) (k : Fin 10) (i : S1x1.Idx) : sK x0 k i = Ideal.exp (x0 (ix2 0 k)) := by
  pointwise [sK, k0_pay3]

theorem laK_apply (x0 : Vec Ideal S1x10 .f32) (k : Fin 10) (i : S1x1.Idx) :
    laK x0 k i = Ideal.log1p (0 - Ideal.exp (x0 (ix2 0 k))) := by
  pointwise [laK, k0_pay4, k0_pay3]

theorem toInt_small {n : ℕ} (h : n < 2 ^ 31) : (BitVec.ofNat 32 n).toInt = (n : ℤ) := by
  rw [BitVec.toInt_eq_toNat_of_lt] <;> rw [BitVec.toNat_ofNat, Nat.mod_eq_of_lt (by omega)]
  omega

theorem sitofp_small {n : ℕ} (h : n < 2 ^ 31) :
    FloatOps.sitofp (F := Ideal) FTy.f32 (BitVec.ofNat 32 n) = (((n : ℝ)) : EReal) := by
  show (((BitVec.ofNat 32 n).toInt : ℝ) : EReal) = _
  rw [toInt_small h, Int.cast_natCast]

theorem ofBits_127 : Ideal.ofBits .f32 0x42FE0000#32 = ((127 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

section Payload
variable {r : ℝ} (h1 : r ≤ 1) {s la : FVec Ideal S1x1 .f32} (hs : s (ix2 0 0) = (r : EReal)) (hla : la (ix2 0 0) = Ideal.log1p (0 - (r : EReal)))
include h1 hs hla

/-- The triangle: a sample `i - j` steps back counts `s (1 - s) ^ (i - j)`, a later one nothing. -/
theorem tapP_apply (j i : Fin 128) :
    tapP s la (ix2 j i) = if j.val ≤ i.val then ((r * (1 - r) ^ (i.val - j.val) : ℝ) : EReal) else 0 := by
  pointwise [tapP, k0_pay5]
  have hi := i.isLt
  have hj := j.isLt
  have hc : IntOp.cmpi CmpIPredicate.sge (BitVec.ofNat 32 i.val) (BitVec.ofNat 32 j.val) = BitVec.ofBool (decide (j.val ≤ i.val)) := by
    show BitVec.ofBool ((BitVec.ofNat 32 j.val).sle (BitVec.ofNat 32 i.val)) = _
    rw [BitVec.sle_eq_decide, toInt_small (by omega), toInt_small (by omega)]
    simp
  rw [hc]
  unfold Scalar.select
  by_cases hle : j.val ≤ i.val
  · have hd : IntOp.subi (BitVec.ofNat 32 i.val) (BitVec.ofNat 32 j.val) = BitVec.ofNat 32 (i.val - j.val) := by
      show BitVec.ofNat 32 i.val - BitVec.ofNat 32 j.val = _
      apply BitVec.eq_of_toNat_eq
      simp only [BitVec.toNat_sub, BitVec.toNat_ofNat]
      omega
    rw [if_pos (by simp [hle]), if_pos hle, hd, sitofp_small (by omega), hs, hla, exp_nat_log1p h1, ← EReal.coe_mul]
  · rw [if_neg (by simp [hle]), if_neg hle]

/-- The row: the incoming state counts one more power of `1 - s` at each output. -/
theorem rowP_apply (i : Fin 128) : rowP la (ix2 0 i) = (((1 - r) ^ (i.val + 1) : ℝ) : EReal) := by
  pointwise [rowP, k0_pay6]
  have hi := i.isLt
  rw [sitofp_small (by omega), ← EReal.coe_one, ← EReal.coe_add, ← Nat.cast_one, ← Nat.cast_add, Nat.cast_one, hla]
  exact exp_nat_log1p h1 (i.val + 1)

/-- The column: each sample as the last output of the block counts it. -/
theorem colP_apply (j : Fin 128) : colP s la (ix2 j 0) = ((r * (1 - r) ^ (127 - j.val) : ℝ) : EReal) := by
  pointwise [colP, k0_pay7]
  have hj := j.isLt
  have e : ((127 : ℝ)) - (j.val : ℝ) = ((127 - j.val : ℕ) : ℝ) := by
    rw [Nat.cast_sub (by omega)]; norm_num
  rw [sitofp_small (by omega), ofBits_127, ← EReal.coe_sub, e, hs, hla, exp_nat_log1p h1, ← EReal.coe_mul]

/-- The corner: the incoming state as the last output of the block counts it, on its own lane. -/
theorem laneP_apply (k : Fin 10) (i : Fin 128) :
    laneP k la (ix2 0 i) = if i.val = k.val then (((1 - r) ^ 128 : ℝ) : EReal) else 0 := by
  pointwise [laneP]
  have hi := i.isLt
  have hk := k.isLt
  have hc : IntOp.cmpi CmpIPredicate.eq (BitVec.ofNat 32 i.val) (BitVec.ofNat 32 k.val) = BitVec.ofBool (decide (i.val = k.val)) := by
    show BitVec.ofBool (BitVec.ofNat 32 i.val == BitVec.ofNat 32 k.val) = _
    congr 1
    rw [Bool.eq_iff_iff, beq_iff_eq, decide_eq_true_iff]
    constructor
    · intro h
      have := congrArg BitVec.toNat h
      simp only [BitVec.toNat_ofNat] at this
      omega
    · intro h; rw [h]
  rw [hc]
  unfold Scalar.select
  by_cases he : i.val = k.val
  · rw [if_pos (by simp [he]), if_pos he, ofBits_128, hla]
    exact exp_nat_log1p h1 128
  · rw [if_neg (by simp [he]), if_neg he]

end Payload

/-- The block matrix in closed form, `r k` the smoothing constant of channel `k`: rows 0 to 9 the incoming states, rows
128 to 255 the samples; columns `128 k + i` the outputs, columns `1280 + k` the outgoing states. -/
def uF (r : Fin 10 → ℝ) (y : S256x1408.Idx) : EReal :=
  if hq : (y 1).val < 1280 then
    (if 128 ≤ (y 0).val then
      (if (y 0).val - 128 ≤ (y 1).val % 128 then
        ((r ⟨(y 1).val / 128, by omega⟩ * (1 - r ⟨(y 1).val / 128, by omega⟩) ^ ((y 1).val % 128 - ((y 0).val - 128)) : ℝ) : EReal) else 0)
    else if (y 0).val = (y 1).val / 128 then (((1 - r ⟨(y 1).val / 128, by omega⟩) ^ ((y 1).val % 128 + 1) : ℝ) : EReal) else 0)
  else if hk : (y 1).val - 1280 < 10 then
    (if 128 ≤ (y 0).val then
      ((r ⟨(y 1).val - 1280, hk⟩ * (1 - r ⟨(y 1).val - 1280, hk⟩) ^ (127 - ((y 0).val - 128)) : ℝ) : EReal)
    else if (y 0).val = (y 1).val - 1280 then (((1 - r ⟨(y 1).val - 1280, hk⟩) ^ 128 : ℝ) : EReal) else 0)
  else 0

section Regions
variable (r : Fin 10 → ℝ) {y : S256x1408.Idx} {k : Fin 10}

theorem uF_tap {j i : ℕ} (hi : i < 128) (e0 : (y 0).val = 128 + j) (e1 : (y 1).val = 128 * k.val + i) :
    uF r y = if j ≤ i then ((r k * (1 - r k) ^ (i - j) : ℝ) : EReal) else 0 := by
  have hk := k.isLt
  have hq : (y 1).val < 1280 := by omega
  have hd : (⟨(y 1).val / 128, by omega⟩ : Fin 10) = k := Fin.ext (show (y 1).val / 128 = k.val by omega)
  have hm : (y 1).val % 128 = i := by omega
  have hj : (y 0).val - 128 = j := by omega
  unfold uF
  rw [dif_pos hq, if_pos (by omega : 128 ≤ (y 0).val), hd, hm, hj]

theorem uF_row {i : ℕ} (hi : i < 128) (h0 : (y 0).val < 128) (e1 : (y 1).val = 128 * k.val + i) :
    uF r y = if (y 0).val = k.val then (((1 - r k) ^ (i + 1) : ℝ) : EReal) else 0 := by
  have hk := k.isLt
  have hq : (y 1).val < 1280 := by omega
  have hd' : (y 1).val / 128 = k.val := by omega
  have hd : (⟨(y 1).val / 128, by omega⟩ : Fin 10) = k := Fin.ext hd'
  have hm : (y 1).val % 128 = i := by omega
  unfold uF
  rw [dif_pos hq, if_neg (by omega : ¬ 128 ≤ (y 0).val), hd, hm, hd']

theorem uF_col {j : ℕ} (e0 : (y 0).val = 128 + j) (e1 : (y 1).val = 1280 + k.val) :
    uF r y = ((r k * (1 - r k) ^ (127 - j) : ℝ) : EReal) := by
  have hk := k.isLt
  have hq : ¬ (y 1).val < 1280 := by omega
  have hl : (y 1).val - 1280 < 10 := by omega
  have hd : (⟨(y 1).val - 1280, hl⟩ : Fin 10) = k := Fin.ext (show (y 1).val - 1280 = k.val by omega)
  have hj : (y 0).val - 128 = j := by omega
  unfold uF
  rw [dif_neg hq, dif_pos hl, if_pos (by omega : 128 ≤ (y 0).val), hd, hj]

theorem uF_lane (h0 : (y 0).val < 128) (e1 : (y 1).val = 1280 + k.val) :
    uF r y = if (y 0).val = k.val then (((1 - r k) ^ 128 : ℝ) : EReal) else 0 := by
  have hk := k.isLt
  have hq : ¬ (y 1).val < 1280 := by omega
  have hl : (y 1).val - 1280 < 10 := by omega
  have hd : (⟨(y 1).val - 1280, hl⟩ : Fin 10) = k := Fin.ext (show (y 1).val - 1280 = k.val by omega)
  unfold uF
  rw [dif_neg hq, dif_pos hl, if_neg (by omega : ¬ 128 ≤ (y 0).val), hd]
  simp only [e1, Nat.add_sub_cancel_left]

theorem uF_pad (e1 : 1290 ≤ (y 1).val) : uF r y = 0 := by
  unfold uF
  rw [dif_neg (by omega), dif_neg (by omega)]

end Regions

theorem inbLane (k : Fin 10) : ∀ a, (![k.val, 1280] : Fin 2 → ℕ) a + S1x128.size a ≤ S256x1408.size a := fun a => by
  have := k.isLt
  match a with
  | ⟨0, _⟩ => show k.val + 1 ≤ 256; omega
  | ⟨1, _⟩ => exact (by decide : 1280 + 128 ≤ 1408)

theorem inbCol (k : Fin 10) : ∀ a, (![128, 1280 + k.val] : Fin 2 → ℕ) a + S128x1.size a ≤ S256x1408.size a := fun a => by
  have := k.isLt
  match a with
  | ⟨0, _⟩ => exact (by decide : 128 + 128 ≤ 256)
  | ⟨1, _⟩ => show 1280 + k.val + 1 ≤ 1408; omega

theorem inbRow (k : Fin 10) : ∀ a, (![k.val, 128 * k.val] : Fin 2 → ℕ) a + S1x128.size a ≤ S256x1408.size a := fun a => by
  have := k.isLt
  match a with
  | ⟨0, _⟩ => show k.val + 1 ≤ 256; omega
  | ⟨1, _⟩ => show 128 * k.val + 128 ≤ 1408; omega

theorem inbTap (k : Fin 10) : ∀ a, (![128, 128 * k.val] : Fin 2 → ℕ) a + S128x128.size a ≤ S256x1408.size a := fun a => by
  have := k.isLt
  match a with
  | ⟨0, _⟩ => exact (by decide : 128 + 128 ≤ 256)
  | ⟨1, _⟩ => show 128 * k.val + 128 ≤ 1408; omega

/-- The four stores of channel `k`, the last first. -/
def chan (x0 : Vec Ideal S1x10 .f32) (k : Fin 10) : List (View.Piece (Elt Ideal) S256x1408 .f32) :=
  [⟨Rect.unit ![k.val, 1280] S1x128.size (inbLane k), laneP k (laK x0 k)⟩,
   ⟨Rect.unit ![128, 1280 + k.val] S128x1.size (inbCol k), colP (sK x0 k) (laK x0 k)⟩,
   ⟨Rect.unit ![k.val, 128 * k.val] S1x128.size (inbRow k), rowP (laK x0 k)⟩,
   ⟨Rect.unit ![128, 128 * k.val] S128x128.size (inbTap k), tapP (sK x0 k) (laK x0 k)⟩]

/-- What the kernel loads of the row of logarithms. -/
def ld0 (arg2 : Memref sig .tc .vmem S1x10 .f32) (harg2 : arg2.IsWhole) (x0 : Vec Ideal S1x10 .f32) : Vec Ideal S1x10 .f32 :=
  View.readAt (Elt Ideal) arg2.view (Rect.unit ![0, 0] S1x10.size inb_S1x10_S1x10_0_0).toLoadRect (harg2.unread x0)

/-- All the stores into the block matrix: the channels over a fill with zeros. -/
theorem uList (c : Dev nD) (arg2 : Memref sig .tc .vmem S1x10 .f32) (harg2 : arg2.IsWhole) (x0 : Vec Ideal S1x10 .f32) :
    kernelRun0_A.sl.HS0_41 c arg2 harg2 x0
      = ([9, 8, 7, 6, 5, 4, 3, 2, 1, 0] : List (Fin 10)).flatMap (chan (ld0 arg2 harg2 x0))
        ++ [⟨Rect.unit ![0, 0] S256x1408.size inb_S256x1408_S256x1408_0_0, k0_pay8 (F := Ideal)⟩] := by
  rfl

theorem ld0_eq (arg2 : Memref sig .tc .vmem S1x10 .f32) (harg2 : arg2.IsWhole) (x0 : Vec Ideal S1x10 .f32) : ld0 arg2 harg2 x0 = x0 := by
  funext x
  refine (harg2.readAt_unread x0 (Rect.unit ![0, 0] S1x10.size inb_S1x10_S1x10_0_0).toLoadRect x).trans (congrArg x0 (funext fun a => Fin.ext ?_))
  refine (ValueKit.rect_emb_unit_val _ _ _ x a).trans ?_
  match a with
  | ⟨0, _⟩ => exact Nat.zero_add _
  | ⟨1, _⟩ => exact Nat.zero_add _

/-- Stores that do not reach an index leave what was there before them. -/
theorem canon_append_of_not_mem {s : Shape} {e : EltTy} (L' : List (View.Piece (Elt Ideal) s e)) (y : s.Idx) :
    ∀ L : List (View.Piece (Elt Ideal) s e), (∀ p ∈ L, y ∉ p.1.set) → View.canon (L ++ L') y = View.canon L' y
  | [], _ => rfl
  | p :: L, h => by
    rw [List.cons_append, View.canon_cons_of_not_mem _ _ (h p (by simp))]
    exact canon_append_of_not_mem L' y L fun q hq => h q (by simp [hq])

section Matrix
variable {x0 : Vec Ideal S1x10 .f32} {r : Fin 10 → ℝ} (h1 : ∀ k, r k ≤ 1) (hr : ∀ k, Ideal.exp (x0 (ix2 0 k)) = (r k : EReal))
include h1 hr

/-- Every store of a channel is a block of the closed form. -/
theorem chan_pieces (k : Fin 10) : ∀ p ∈ chan x0 k, ∀ x : p.1.shape.Idx, p.2 x = uF r (p.1.emb x) := by
  have hk := k.isLt
  have hs : sK x0 k (ix2 0 0) = (r k : EReal) := (sK_apply x0 k _).trans (hr k)
  have hla : laK x0 k (ix2 0 0) = Ideal.log1p (0 - (r k : EReal)) := by rw [laK_apply, hr]
  intro p hp
  simp only [chan, List.mem_cons, List.not_mem_nil, or_false] at hp
  rcases hp with rfl | rfl | rfl | rfl
  · intro x
    have hx0 : (x 0).val = 0 := Nat.lt_one_iff.mp (x 0).isLt
    have hx1 : (x 1).val < 128 := (x 1).isLt
    refine (congrArg (laneP k (laK x0 k)) (show x = ix2 0 ⟨(x 1).val, hx1⟩ from ?_)).trans ?_
    · funext a; match a with
      | ⟨0, _⟩ => exact Fin.ext hx0
      | ⟨1, _⟩ => rfl
    rw [laneP_apply (h1 k) hs hla]
    have e0 := ValueKit.rect_emb_unit_val (s := S256x1408) ![k.val, 1280] S1x128.size (inbLane k) x 0
    have e1 := ValueKit.rect_emb_unit_val (s := S256x1408) ![k.val, 1280] S1x128.size (inbLane k) x 1
    replace e0 : _ = k.val + (x 0).val := e0
    replace e1 : _ = 1280 + (x 1).val := e1
    by_cases hx : (x 1).val < 10
    · rw [uF_lane r (k := ⟨(x 1).val, hx⟩) (by omega) e1]
      by_cases hxk : (x 1).val = k.val
      · rw [if_pos hxk, if_pos (by rw [e0, hx0]; exact hxk.symm), show (⟨(x 1).val, hx⟩ : Fin 10) = k from Fin.ext hxk]
      · rw [if_neg hxk, if_neg (by rw [e0, hx0]; exact fun h => hxk h.symm)]
    · rw [uF_pad r (le_of_le_of_eq (by omega : 1290 ≤ 1280 + (x 1).val) e1.symm), if_neg (by show ¬ (x 1).val = k.val; omega)]
  · intro x
    have hx0 : (x 0).val < 128 := (x 0).isLt
    have hx1 : (x 1).val = 0 := Nat.lt_one_iff.mp (x 1).isLt
    refine (congrArg (colP (sK x0 k) (laK x0 k)) (show x = ix2 ⟨(x 0).val, hx0⟩ 0 from ?_)).trans ?_
    · funext a; match a with
      | ⟨0, _⟩ => rfl
      | ⟨1, _⟩ => exact Fin.ext hx1
    rw [colP_apply (h1 k) hs hla]
    have e0 := ValueKit.rect_emb_unit_val (s := S256x1408) ![128, 1280 + k.val] S128x1.size (inbCol k) x 0
    have e1 := ValueKit.rect_emb_unit_val (s := S256x1408) ![128, 1280 + k.val] S128x1.size (inbCol k) x 1
    replace e1 : _ = 1280 + k.val + (x 1).val := e1
    exact (uF_col r e0 (by rw [e1, hx1]; rfl)).symm
  · intro x
    have hx0 : (x 0).val = 0 := Nat.lt_one_iff.mp (x 0).isLt
    have hx1 : (x 1).val < 128 := (x 1).isLt
    refine (congrArg (rowP (laK x0 k)) (show x = ix2 0 ⟨(x 1).val, hx1⟩ from ?_)).trans ?_
    · funext a; match a with
      | ⟨0, _⟩ => exact Fin.ext hx0
      | ⟨1, _⟩ => rfl
    rw [rowP_apply (h1 k) hs hla]
    have e0 := ValueKit.rect_emb_unit_val (s := S256x1408) ![k.val, 128 * k.val] S1x128.size (inbRow k) x 0
    have e1 := ValueKit.rect_emb_unit_val (s := S256x1408) ![k.val, 128 * k.val] S1x128.size (inbRow k) x 1
    replace e0 : _ = k.val + (x 0).val := e0
    rw [uF_row r hx1 (by omega) e1, if_pos (by omega)]
  · intro x
    have hx0 : (x 0).val < 128 := (x 0).isLt
    have hx1 : (x 1).val < 128 := (x 1).isLt
    refine (congrArg (tapP (sK x0 k) (laK x0 k)) (show x = ix2 ⟨(x 0).val, hx0⟩ ⟨(x 1).val, hx1⟩ from ?_)).trans ?_
    · funext a; match a with
      | ⟨0, _⟩ => rfl
      | ⟨1, _⟩ => rfl
    rw [tapP_apply (h1 k) hs hla]
    have e0 := ValueKit.rect_emb_unit_val (s := S256x1408) ![128, 128 * k.val] S128x128.size (inbTap k) x 0
    have e1 := ValueKit.rect_emb_unit_val (s := S256x1408) ![128, 128 * k.val] S128x128.size (inbTap k) x 1
    exact (uF_tap r hx1 e0 e1).symm

omit h1 hr in
/-- Where no store of any channel reaches, the closed form is zero. -/
theorem uF_uncovered (y : S256x1408.Idx) (h : ∀ k, ∀ p ∈ chan x0 k, y ∉ p.1.set) : uF r y = 0 := by
  have y0 : (y 0).val < 256 := (y 0).isLt
  have y1 : (y 1).val < 1408 := (y 1).isLt
  have tap : ∀ k : Fin 10, ¬ (128 ≤ (y 0).val ∧ 128 * k.val ≤ (y 1).val ∧ (y 1).val < 128 * k.val + 128) := fun k hk =>
    h k ⟨Rect.unit ![128, 128 * k.val] S128x128.size (inbTap k), tapP (sK x0 k) (laK x0 k)⟩ (.tail _ (.tail _ (.tail _ (.head _)))) (Rect.mem_set_unit (inb := inbTap k) |>.mpr fun a => match a with
      | ⟨0, _⟩ => ⟨hk.1, y0⟩
      | ⟨1, _⟩ => hk.2)
  have row : ∀ k : Fin 10, ¬ ((y 0).val = k.val ∧ 128 * k.val ≤ (y 1).val ∧ (y 1).val < 128 * k.val + 128) := fun k hk =>
    h k ⟨Rect.unit ![k.val, 128 * k.val] S1x128.size (inbRow k), rowP (laK x0 k)⟩ (.tail _ (.tail _ (.head _))) (Rect.mem_set_unit (inb := inbRow k) |>.mpr fun a => match a with
      | ⟨0, _⟩ => ⟨hk.1.ge, Nat.lt_succ_of_le hk.1.le⟩
      | ⟨1, _⟩ => hk.2)
  have col : ∀ k : Fin 10, ¬ (128 ≤ (y 0).val ∧ (y 1).val = 1280 + k.val) := fun k hk =>
    h k ⟨Rect.unit ![128, 1280 + k.val] S128x1.size (inbCol k), colP (sK x0 k) (laK x0 k)⟩ (.tail _ (.head _)) (Rect.mem_set_unit (inb := inbCol k) |>.mpr fun a => match a with
      | ⟨0, _⟩ => ⟨hk.1, y0⟩
      | ⟨1, _⟩ => ⟨hk.2.ge, Nat.lt_succ_of_le hk.2.le⟩)
  have lane : ∀ k : Fin 10, ¬ ((y 0).val = k.val ∧ 1280 ≤ (y 1).val) := fun k hk =>
    h k ⟨Rect.unit ![k.val, 1280] S1x128.size (inbLane k), laneP k (laK x0 k)⟩ (.head _) (Rect.mem_set_unit (inb := inbLane k) |>.mpr fun a => match a with
      | ⟨0, _⟩ => ⟨hk.1.ge, Nat.lt_succ_of_le hk.1.le⟩
      | ⟨1, _⟩ => ⟨hk.2, y1⟩)
  by_cases hq : (y 1).val < 1280
  · have hk : (y 1).val / 128 < 10 := by omega
    have ht := tap ⟨(y 1).val / 128, hk⟩
    have hr := row ⟨(y 1).val / 128, hk⟩
    dsimp only at ht hr
    rw [uF_row r (k := ⟨(y 1).val / 128, hk⟩) (i := (y 1).val % 128) (by omega) (by omega)
      (Nat.div_add_mod _ _).symm, if_neg (by dsimp only; omega)]
  · by_cases hp : 1290 ≤ (y 1).val
    · exact uF_pad r hp
    · have hk : (y 1).val - 1280 < 10 := by omega
      have hc := col ⟨(y 1).val - 1280, hk⟩
      have hl := lane ⟨(y 1).val - 1280, hk⟩
      dsimp only at hc hl
      rw [uF_lane r (k := ⟨(y 1).val - 1280, hk⟩) (by omega) (by dsimp only; omega), if_neg (by dsimp only; omega)]

/-- The block matrix after its stores. -/
theorem uMat (y : S256x1408.Idx) (c : Dev nD) (arg2 : Memref sig .tc .vmem S1x10 .f32) (harg2 : arg2.IsWhole) :
    View.canon (kernelRun0_A.sl.HS0_41 c arg2 harg2 x0) y = uF r y := by
  rw [uList, ld0_eq]
  by_cases hc : ∃ p ∈ ([9, 8, 7, 6, 5, 4, 3, 2, 1, 0] : List (Fin 10)).flatMap (chan x0), y ∈ p.1.set
  · refine View.canon_append_of_pieces (uF r) _ _ (fun p hp => ?_) y hc
    obtain ⟨k, -, hp⟩ := List.mem_flatMap.mp hp
    exact chan_pieces h1 hr k p hp
  · rw [canon_append_of_not_mem _ _ _ (fun p hp hy => hc ⟨p, hp, hy⟩), View.canon_cons_unit_lit _ _ _ (by decide),
      uF_uncovered y fun k p hp hy => hc ⟨p, List.mem_flatMap.mpr ⟨k, (by decide : ∀ k : Fin 10, k ∈ ([9, 8, 7, 6, 5, 4, 3, 2, 1, 0] : List (Fin 10))) k, hp⟩, hy⟩]
    pointwise [k0_pay8]

end Matrix

end Cert.Pcen
end
end
-- ==== Proof.KVal.lean ====
module

public import proofs.«01_k».proof.Proof.UVal
public import Idealize.ShloMosaic.Lib.WritesUnit

/-! One grid point of the kernel: the product with the block matrix gives the smoothed signal, the stored state and the
twenty stored output blocks. -/

@[expose] public section
set_option maxRecDepth 16384
set_option backward.proofsInPublic true
noncomputable section
namespace Cert.Pcen
open Cert.KernelIdeal Cert.KernelIdeal.Gen Idealize.ShloMosaic Idealize.ShloMosaic.TcCoe Idealize.SL.Sem

/-- The product at an index is a sum over the 256 columns of the left factor. -/
theorem prod_apply (w : Vec Ideal S1024x256 .f32) (U : Vec Ideal S256x1408 .f32) (i : Fin 1024) (j : Fin 1408) :
    k0_pay83 w U (ix2 i j) = ∑ q : Fin 256, w (ix2 i q) * U (ix2 q j) := by
  pointwise [k0_pay83]

theorem slice_ok2 (k : Fin 10) : S1024x1408.Slices ![0, 128 * k.val] S1024x128 :=
  ⟨rfl, fun a => by have := k.isLt; match a with | ⟨0, _⟩ => exact (by decide : 0 + 1024 ≤ 1024) | ⟨1, _⟩ => show 128 * k.val + 128 ≤ 1408; omega⟩

/-- One stored output block of channel `k`. -/
def outP (k : Fin 10) (v9 v14 v24 : FVec Ideal S1x128x1 .f32) (m : FVec Ideal S1024x1408 .f32) (x : Vec Ideal S8x128x128 .f32) : FVec Ideal S8x1x128x128 .f32 :=
  shapeCast S8x1x128x128
    (subf (rsqrt (rsqrt (addf (mulf x (exp2 (mulf (broadcastTo S8x128x128 (subf (broadcast S1x128x1 (Scalar.ofBits .f32 0x00000000#32)) v9) broadcasts_S1x128x1_S8x128x128)
      (mulf (log (addf (shapeCast S8x128x128 (extractStridedSlice S1024x128 ![0, 128 * k.val] m (slice_ok2 k)) shapeCasts_S1024x128_S8x128x128)
        (broadcast S8x128x128 (Scalar.ofBits .f32 0x3727C5AC#32)))) (broadcast S8x128x128 (Named.named κ "inv_ln2" 0x3FB8AA3B#32))))))
      (broadcastTo S8x128x128 v14 broadcasts_S1x128x1_S8x128x128))))
      (broadcastTo S8x128x128 v24 broadcasts_S1x128x1_S8x128x128)) shapeCasts_S8x128x128_S8x1x128x128

theorem outP_apply (k : Fin 10) (v9 v14 v24 : FVec Ideal S1x128x1 .f32) (m : FVec Ideal S1024x1408 .f32) (x : Vec Ideal S8x128x128 .f32)
    (b : Fin 8) (f l : Fin 128) : outP k v9 v14 v24 m x (ix4 b 0 f l) =
      Ideal.rsqrt (Ideal.rsqrt (x (ix3 b f l) * Ideal.exp2 ((0 - v9 (ix3 0 f 0)) * (Ideal.log (m (ix2 ⟨b.val * 128 + f.val, by omega⟩ ⟨128 * k.val + l.val, by omega⟩) + Ideal.ofBits .f32 0x3727C5AC#32) * (((Real.log 2)⁻¹ : ℝ) : EReal))) + v14 (ix3 0 f 0))) - v24 (ix3 0 f 0) := by
  pointwise [outP]
  rw [IdealRules.named_const.ideal_named_scalar _ _ _ _ rfl]
  rfl

section Product
variable {r : ℝ} (h0 : 0 ≤ r) (h1 : r ≤ 1)

/-- The product's sum with one channel's tap columns is the block recurrence. -/
theorem sum_blk (C : EReal) (xs : ℕ → EReal) (k : Fin 10) (i : ℕ) (hi : i < 128) (a u : Fin 256 → EReal)
    (hC : a ⟨k.val, by omega⟩ = C) (hxs : ∀ j (hj : j < 128), a ⟨128 + j, by omega⟩ = xs j)
    (hu0 : ∀ q : Fin 256, q.val < 128 → u q = if q.val = k.val then (((1 - r) ^ (i + 1) : ℝ) : EReal) else 0)
    (hu1 : ∀ j (hj : j < 128), u ⟨128 + j, by omega⟩ = if j ≤ i then ((r * (1 - r) ^ (i - j) : ℝ) : EReal) else 0) :
    ∑ q : Fin 256, a q * u q = blk r C xs i := by
  have hk := k.isLt
  rw [Fin.sum_univ_add (a := 128) (b := 128) (fun q : Fin (128 + 128) => a q * u q)]
  unfold blk
  congr 1
  · rw [Finset.sum_eq_single (⟨k.val, by omega⟩ : Fin 128)]
    · show a ⟨k.val, _⟩ * u ⟨k.val, _⟩ = _
      rw [hC, hu0 _ (show k.val < 128 by omega), if_pos rfl]
    · intro q _ hq
      show a ⟨q.val, _⟩ * u ⟨q.val, _⟩ = _
      rw [hu0 _ q.isLt, if_neg (fun h => hq (Fin.ext h)), mul_zero]
    · exact fun h => absurd (Finset.mem_univ _) h
  · have : ∀ q : Fin 128, a (Fin.natAdd 128 q) * u (Fin.natAdd 128 q)
        = (fun j => if j ≤ i then xs j * ((r * (1 - r) ^ (i - j) : ℝ) : EReal) else 0) q.val := fun q => by
      show a ⟨128 + q.val, _⟩ * u ⟨128 + q.val, _⟩ = _
      rw [hxs _ q.isLt, hu1 _ q.isLt]
      by_cases h : q.val ≤ i
      · simp only [if_pos h]
      · simp only [if_neg h, mul_zero]
    rw [Finset.sum_congr rfl (fun q _ => this q), Fin.sum_univ_eq_sum_range (fun j => if j ≤ i then xs j * ((r * (1 - r) ^ (i - j) : ℝ) : EReal) else 0) 128]
    rw [← Finset.sum_subset (Finset.range_mono (by omega : i + 1 ≤ 128))]
    · exact Finset.sum_congr rfl fun j hj => if_pos (by have := Finset.mem_range.mp hj; omega)
    · intro j _ hj
      exact if_neg (fun h => hj (Finset.mem_range.mpr (by omega)))

end Product

theorem lt_state (k : Fin 10) : k.val < 256 := by omega
theorem lt_sample {j : ℕ} (hj : j < 128) : 128 + j < 256 := by omega
theorem lt_out (k : Fin 10) (i : Fin 128) : 128 * k.val + i.val < 1408 := by omega
theorem lt_carry (k : Fin 10) : 1280 + k.val < 1408 := by omega

section Half
variable {r : Fin 10 → ℝ} (h0 : ∀ k, 0 ≤ r k) (h1 : ∀ k, r k ≤ 1) {U : Vec Ideal S256x1408 .f32} (hU : ∀ y, U y = uF r y)
  (w : Vec Ideal S1024x256 .f32) (row : Fin 1024) (k : Fin 10) (x : ℕ → EReal) (hx : ∀ t, 0 ≤ x t) (t0 : ℕ)
  (hw0 : 0 ≤ w (ix2 row ⟨k.val, lt_state k⟩))
  (hw : (1 - (r k : EReal)) * w (ix2 row ⟨k.val, lt_state k⟩) + (r k : EReal) * x t0 = smo (r k) x t0)
  (hx0 : ∀ j (hj : j < 128), w (ix2 row ⟨128 + j, lt_sample hj⟩) = x (t0 + j))
include h0 h1 hU hx hw0 hw hx0

/-- One half of a point: the product's column of channel `k` and time `i` is the smoothed signal there. -/
theorem half_out (i : Fin 128) :
    k0_pay83 w U (ix2 row ⟨128 * k.val + i.val, lt_out k i⟩) = smo (r k) x (t0 + i.val) := by
  have hk := k.isLt
  rw [prod_apply, ← blk_eq_smo (h0 k) (h1 k) hw0 hx t0 hw]
  refine sum_blk _ _ k i.val i.isLt _ _ rfl hx0 (fun q hq => ?_) (fun j hj => ?_)
  · exact (hU _).trans (uF_row r i.isLt hq rfl)
  · exact (hU _).trans (uF_tap r i.isLt rfl rfl)

/-- One half of a point: the column that is stored as the state is the smoothed signal's last value. -/
theorem half_carry :
    k0_pay83 w U (ix2 row ⟨1280 + k.val, lt_carry k⟩) = smo (r k) x (t0 + 127) := by
  have hk := k.isLt
  rw [prod_apply, ← blk_eq_smo (h0 k) (h1 k) hw0 hx t0 hw]
  refine sum_blk _ _ k 127 (by decide) _ _ rfl hx0 (fun q hq => ?_) (fun j hj => ?_)
  · exact (hU _).trans (uF_lane r hq rfl)
  · rw [if_pos (by omega)]
    exact (hU _).trans (uF_col r rfl rfl)

end Half

theorem row_lt (b : Fin 8) (f : Fin 128) : b.val * 128 + f.val < 1024 := by omega

/-- The row of the 1024 that holds sample `b` and frequency `f`. -/
def rowOf (b : Fin 8) (f : Fin 128) : Fin 1024 := ⟨b.val * 128 + f.val, row_lt b f⟩

/-- The stores into the left and into the right half of the left factor. -/
def pL (L : Vec Ideal S1024x128 .f32) : View.Piece (Elt Ideal) S1024x256 .f32 := ⟨Rect.unit ![0, 0] S1024x128.size inb_S1024x256_S1024x128_0_0, L⟩
def pR (R : Vec Ideal S1024x128 .f32) : View.Piece (Elt Ideal) S1024x256 .f32 := ⟨Rect.unit ![0, 128] S1024x128.size inb_S1024x256_S1024x128_0_128, R⟩

theorem embL (i : Fin 1024) (q : Fin 128) : (ix2 i ⟨q.val, by omega⟩ : S1024x256.Idx) = (Rect.unit (s := S1024x256) ![0, 0] S1024x128.size inb_S1024x256_S1024x128_0_0).emb (ix2 i q) := by
  funext a
  refine Fin.ext (Eq.trans ?_ (ValueKit.rect_emb_unit_val _ _ _ _ a).symm)
  match a with
  | ⟨0, _⟩ => exact (Nat.zero_add _).symm
  | ⟨1, _⟩ => exact (Nat.zero_add _).symm

theorem embR (i : Fin 1024) (q : Fin 128) : (ix2 i ⟨128 + q.val, by omega⟩ : S1024x256.Idx) = (Rect.unit (s := S1024x256) ![0, 128] S1024x128.size inb_S1024x256_S1024x128_0_128).emb (ix2 i q) := by
  funext a
  refine Fin.ext (Eq.trans ?_ (ValueKit.rect_emb_unit_val _ _ _ _ a).symm)
  match a with
  | ⟨0, _⟩ => exact (Nat.zero_add _).symm
  | ⟨1, _⟩ => rfl

theorem notR (i : Fin 1024) (q : Fin 128) : (ix2 i ⟨q.val, by omega⟩ : S1024x256.Idx) ∉ (Rect.unit (s := S1024x256) ![0, 128] S1024x128.size inb_S1024x256_S1024x128_0_128).set := by
  rw [Rect.mem_set_unit]
  intro h
  have := (h 1).1
  exact absurd (show 128 ≤ q.val from this) (by omega)

theorem canon_L (L : Vec Ideal S1024x128 .f32) (rest : List (View.Piece (Elt Ideal) S1024x256 .f32)) (i : Fin 1024) (q : Fin 128) :
    View.canon (pL L :: rest) (ix2 i ⟨q.val, by omega⟩) = L (ix2 i q) := by
  rw [embL]; exact View.canon_cons_emb _ _ _ _

theorem canon_R (R : Vec Ideal S1024x128 .f32) (rest : List (View.Piece (Elt Ideal) S1024x256 .f32)) (i : Fin 1024) (q : Fin 128) :
    View.canon (pR R :: rest) (ix2 i ⟨128 + q.val, by omega⟩) = R (ix2 i q) := by
  rw [embR]; exact View.canon_cons_emb _ _ _ _

theorem canon_RL (R L : Vec Ideal S1024x128 .f32) (rest : List (View.Piece (Elt Ideal) S1024x256 .f32)) (i : Fin 1024) (q : Fin 128) :
    View.canon (pR R :: pL L :: rest) (ix2 i ⟨q.val, by omega⟩) = L (ix2 i q) := by
  exact (View.canon_cons_of_not_mem (pR R) _ (notR i q)).trans (canon_L L rest i q)

/-- A load of a whole two-axis buffer reads every index at itself. -/
theorem idxFull {n0 n1 : ℕ} (inb : ∀ a, (![0, 0] : Fin 2 → ℕ) a + (⟨2, ![n0, n1]⟩ : Shape).size a ≤ (⟨2, ![n0, n1]⟩ : Shape).size a) (y : (⟨2, ![n0, n1]⟩ : Shape).Idx) :
    (Rect.unit (s := ⟨2, ![n0, n1]⟩) ![0, 0] (⟨2, ![n0, n1]⟩ : Shape).size inb).toLoadRect.idx y = y := by
  funext a
  refine Fin.ext ((ValueKit.rect_emb_unit_val _ _ _ y a).trans ?_)
  match a with
  | ⟨0, _⟩ => exact Nat.zero_add _
  | ⟨1, _⟩ => exact Nat.zero_add _

theorem pay82_apply (X : Vec Ideal S8x128x256 .f32) (b : Fin 8) (f j : Fin 128) : k0_pay82 X (ix2 (rowOf b f) j) = X (ix3 b f ⟨j.val, by omega⟩) := by
  unfold rowOf
  pointwise [k0_pay82, k0_pay74]

theorem pay101_apply (X : Vec Ideal S8x128x256 .f32) (b : Fin 8) (f j : Fin 128) : k0_pay101 (k0_pay74 X) (ix2 (rowOf b f) j) = X (ix3 b f ⟨128 + j.val, by omega⟩) := by
  unfold rowOf
  pointwise [k0_pay101, k0_pay74]

theorem pay78_apply (X : Vec Ideal S8x128x256 .f32) (b : Fin 8) (f j : Fin 128) : k0_pay78 X (ix2 (rowOf b f) j) = X (ix3 b f 0) := by
  unfold rowOf
  pointwise [k0_pay78, k0_pay74]

theorem pay85_apply (w : Vec Ideal S1024x256 .f32) (U : Vec Ideal S256x1408 .f32) (i : Fin 1024) (q : Fin 128) :
    k0_pay85 (k0_pay84 w U) (ix2 i q) = k0_pay83 w U (ix2 i ⟨1280 + q.val, by omega⟩) := by
  pointwise [k0_pay85, k0_pay84]

theorem pay103_apply (w : Vec Ideal S1024x256 .f32) (U : Vec Ideal S256x1408 .f32) (i : Fin 1024) (q : Fin 128) :
    k0_pay103 w U (ix2 i q) = k0_pay83 w U (ix2 i ⟨1280 + q.val, by omega⟩) := by
  show _ = k0_pay102 w U _
  pointwise [k0_pay103]

theorem pay79_apply (v : Vec Ideal S1x128 .f32) (f : Fin 128) : k0_pay79 v (ix3 0 f 0) = Ideal.exp (v (ix2 0 f)) := by
  pointwise [k0_pay79]

theorem pay80_apply (v : Vec Ideal S1x128 .f32) (f : Fin 128) : k0_pay80 v (ix3 0 f 0) = Ideal.exp (v (ix2 0 f)) := by
  pointwise [k0_pay80]

theorem pay81_apply (v u : Vec Ideal S1x128 .f32) (f : Fin 128) :
    k0_pay81 v u (ix3 0 f 0) = Ideal.exp2 (Ideal.exp (u (ix2 0 f)) * (Ideal.log (Ideal.exp (v (ix2 0 f))) * (((Real.log 2)⁻¹ : ℝ) : EReal))) := by
  pointwise [k0_pay81, k0_pay80]
  rw [IdealRules.named_const.ideal_named_scalar _ _ _ _ rfl]
  rfl

theorem inbOut (h : Fin 2) (k : Fin 10) : ∀ a, (![0, k.val, 0, 128 * h.val] : Fin 4 → ℕ) a + (![8, 1, 128, 128] : Fin 4 → ℕ) a ≤ S8x10x128x256.size a := fun a => by
  have := k.isLt
  have := h.isLt
  match a with
  | ⟨0, _⟩ => exact (by decide : 0 + 8 ≤ 8)
  | ⟨1, _⟩ => show k.val + 1 ≤ 10; omega
  | ⟨2, _⟩ => exact (by decide : 0 + 128 ≤ 128)
  | ⟨3, _⟩ => show 128 * h.val + 128 ≤ 256; omega

/-- The store of channel `k` and half `h`. -/
def oPiece (v9 v14 v24 : FVec Ideal S1x128x1 .f32) (h : Fin 2) (m : FVec Ideal S1024x1408 .f32) (x : Vec Ideal S8x128x128 .f32) (k : Fin 10) :
    View.Piece (Elt Ideal) S8x10x128x256 .f32 :=
  ⟨Rect.unit ![0, k.val, 0, 128 * h.val] ![8, 1, 128, 128] (inbOut h k), outP k v9 v14 v24 m x⟩

/-- The twenty stores of a point, the last first. -/
def oList (v9 v14 v24 : FVec Ideal S1x128x1 .f32) (m1 m2 : FVec Ideal S1024x1408 .f32) (xl xr : Vec Ideal S8x128x128 .f32) :
    List (View.Piece (Elt Ideal) S8x10x128x256 .f32) :=
  ([9, 8, 7, 6, 5, 4, 3, 2, 1, 0] : List (Fin 10)).map (oPiece v9 v14 v24 1 m2 xr)
    ++ ([9, 8, 7, 6, 5, 4, 3, 2, 1, 0] : List (Fin 10)).map (oPiece v9 v14 v24 0 m1 xl)

/-- The place of a store's index in the whole block. -/
theorem embO (h : Fin 2) (k : Fin 10) (b : Fin 8) (f l : Fin 128) :
    (Rect.unit (s := S8x10x128x256) ![0, k.val, 0, 128 * h.val] ![8, 1, 128, 128] (inbOut h k)).emb (ix4 b 0 f l) = ix4 b k f ⟨128 * h.val + l.val, by omega⟩ := by
  funext a
  refine Fin.ext ((ValueKit.rect_emb_unit_val _ _ _ _ a).trans ?_)
  match a with
  | ⟨0, _⟩ => exact Nat.zero_add _
  | ⟨1, _⟩ => exact Nat.add_zero _
  | ⟨2, _⟩ => exact Nat.zero_add _
  | ⟨3, _⟩ => rfl

/-- What the twenty stores leave in the block of outputs: at channel `k` and half `h` the block stored for them. -/
theorem oList_canon (v9 v14 v24 : FVec Ideal S1x128x1 .f32) (m : Fin 2 → FVec Ideal S1024x1408 .f32) (x : Fin 2 → Vec Ideal S8x128x128 .f32)
    (b : Fin 8) (k : Fin 10) (f : Fin 128) (h : Fin 2) (l : Fin 128) :
    View.canon (oList v9 v14 v24 (m 0) (m 1) (x 0) (x 1)) (ix4 b k f ⟨128 * h.val + l.val, by omega⟩) = outP k v9 v14 v24 (m h) (x h) (ix4 b 0 f l) := by
  let G : S8x10x128x256.Idx → Elt Ideal .f32 := fun y =>
    outP (y 1) v9 v14 v24 (m ⟨(y 3).val / 128, Nat.div_lt_of_lt_mul (y 3).isLt⟩) (x ⟨(y 3).val / 128, Nat.div_lt_of_lt_mul (y 3).isLt⟩)
      (ix4 (y 0) 0 (y 2) ⟨(y 3).val % 128, Nat.mod_lt _ (by decide)⟩)
  have hG : ∀ (h : Fin 2) (b : Fin 8) (k : Fin 10) (f l : Fin 128), G (ix4 b k f ⟨128 * h.val + l.val, by omega⟩) = outP k v9 v14 v24 (m h) (x h) (ix4 b 0 f l) := fun h b k f l => by
    have hh : (⟨(128 * h.val + l.val) / 128, by omega⟩ : Fin 2) = h := Fin.ext (show (128 * h.val + l.val) / 128 = h.val by omega)
    have hl : (⟨(128 * h.val + l.val) % 128, by omega⟩ : Fin 128) = l := Fin.ext (show (128 * h.val + l.val) % 128 = l.val by omega)
    show outP k v9 v14 v24 (m ⟨(128 * h.val + l.val) / 128, _⟩) (x ⟨(128 * h.val + l.val) / 128, _⟩) (ix4 b 0 f ⟨(128 * h.val + l.val) % 128, _⟩) = _
    rw [hh, hl]
  have hp : ∀ (h : Fin 2) (k : Fin 10) (y : S8x1x128x128.Idx), outP k v9 v14 v24 (m h) (x h) y
      = G ((Rect.unit (s := S8x10x128x256) ![0, k.val, 0, 128 * h.val] ![8, 1, 128, 128] (inbOut h k)).emb y) := fun h k y => by
    obtain ⟨b, z, f, l, rfl⟩ : ∃ (b : Fin 8) (z : Fin 1) (f l : Fin 128), y = ix4 b z f l := ⟨y 0, y 1, y 2, y 3, eq_ix4 y⟩
    obtain rfl : z = 0 := Subsingleton.elim _ _
    rw [embO, hG]
  have hm : ∀ k : Fin 10, k ∈ ([9, 8, 7, 6, 5, 4, 3, 2, 1, 0] : List (Fin 10)) := by decide
  rw [← hG h b k f l, ← List.append_nil (oList _ _ _ _ _ _ _)]
  refine View.canon_append_of_pieces G _ _ (fun p hpm => ?_) _ ?_
  · rcases List.mem_append.mp hpm with hpm | hpm <;> obtain ⟨k, -, rfl⟩ := List.mem_map.mp hpm
    · exact hp 1 k
    · exact hp 0 k
  · refine ⟨oPiece v9 v14 v24 h (m h) (x h) k, ?_, ?_⟩
    · match h with
      | ⟨0, _⟩ => exact List.mem_append_right _ (List.mem_map.mpr ⟨k, hm k, rfl⟩)
      | ⟨1, _⟩ => exact List.mem_append_left _ (List.mem_map.mpr ⟨k, hm k, rfl⟩)
    · rw [← embO]
      exact (Rect.mem_set_unit (inb := inbOut h k)).mpr fun a => by
        rw [ValueKit.rect_emb_unit_val]
        exact ⟨Nat.le_add_right _ _, Nat.add_lt_add_left (Fin.isLt _) _⟩

/-- What the kernel loads of a row of 128, of the whole block of samples, and of one half of it. -/
def ldRow (arg : Memref sig .tc .vmem S1x128 .f32) (harg : arg.IsWhole) (v : Vec Ideal S1x128 .f32) : Vec Ideal S1x128 .f32 :=
  View.readAt (Elt Ideal) arg.view (Rect.unit ![0, 0] S1x128.size inb_S1x128_S1x128_0_0).toLoadRect (harg.unread v)
def ldX (arg6 : Memref sig .tc .vmem S8x128x256 .f32) (harg6 : arg6.IsWhole) (x4 : Vec Ideal S8x128x256 .f32) : Vec Ideal S8x128x256 .f32 :=
  View.readAt (Elt Ideal) arg6.view (Rect.unit ![0, 0, 0] S8x128x256.size inb_S8x128x256_S8x128x256_0_0_0).toLoadRect (harg6.unread x4)
def ldL (arg6 : Memref sig .tc .vmem S8x128x256 .f32) (harg6 : arg6.IsWhole) (x4 : Vec Ideal S8x128x256 .f32) : Vec Ideal S8x128x128 .f32 :=
  View.readAt (Elt Ideal) arg6.view (Rect.unit (s := S8x128x256) ![0, 0, 0] S8x128x128.size inb_S8x128x256_S8x128x128_0_0_0).toLoadRect (harg6.unread x4)
def ldR (arg6 : Memref sig .tc .vmem S8x128x256 .f32) (harg6 : arg6.IsWhole) (x4 : Vec Ideal S8x128x256 .f32) : Vec Ideal S8x128x128 .f32 :=
  View.readAt (Elt Ideal) arg6.view (Rect.unit (s := S8x128x256) ![0, 0, 128] S8x128x128.size inb_S8x128x256_S8x128x128_0_0_128).toLoadRect (harg6.unread x4)

theorem ldRow_eq (arg : Memref sig .tc .vmem S1x128 .f32) (harg : arg.IsWhole) (v : Vec Ideal S1x128 .f32) : ldRow arg harg v = v := by
  funext y
  exact (harg.readAt_unread v (Rect.unit ![0, 0] S1x128.size inb_S1x128_S1x128_0_0).toLoadRect y).trans (congrArg v (idxFull _ y))

theorem ldX_eq (arg6 : Memref sig .tc .vmem S8x128x256 .f32) (harg6 : arg6.IsWhole) (x4 : Vec Ideal S8x128x256 .f32) : ldX arg6 harg6 x4 = x4 := by
  funext y
  refine (harg6.readAt_unread x4 (Rect.unit ![0, 0, 0] S8x128x256.size inb_S8x128x256_S8x128x256_0_0_0).toLoadRect y).trans (congrArg x4 (funext fun a => Fin.ext ?_))
  refine (ValueKit.rect_emb_unit_val _ _ _ y a).trans ?_
  match a with
  | ⟨0, _⟩ => exact Nat.zero_add _
  | ⟨1, _⟩ => exact Nat.zero_add _
  | ⟨2, _⟩ => exact Nat.zero_add _

theorem ldL_apply (arg6 : Memref sig .tc .vmem S8x128x256 .f32) (harg6 : arg6.IsWhole) (x4 : Vec Ideal S8x128x256 .f32) (b : Fin 8) (f l : Fin 128) :
    ldL arg6 harg6 x4 (ix3 b f l) = x4 (ix3 b f ⟨l.val, by omega⟩) := by
  refine (harg6.readAt_unread x4 (Rect.unit (s := S8x128x256) ![0, 0, 0] S8x128x128.size inb_S8x128x256_S8x128x128_0_0_0).toLoadRect (ix3 b f l)).trans (congrArg x4 (funext fun a => Fin.ext ?_))
  refine (ValueKit.rect_emb_unit_val _ _ _ _ a).trans ?_
  match a with
  | ⟨0, _⟩ => exact Nat.zero_add _
  | ⟨1, _⟩ => exact Nat.zero_add _
  | ⟨2, _⟩ => exact Nat.zero_add _

theorem ldR_apply (arg6 : Memref sig .tc .vmem S8x128x256 .f32) (harg6 : arg6.IsWhole) (x4 : Vec Ideal S8x128x256 .f32) (b : Fin 8) (f l : Fin 128) :
    ldR arg6 harg6 x4 (ix3 b f l) = x4 (ix3 b f ⟨128 + l.val, by omega⟩) := by
  refine (harg6.readAt_unread x4 (Rect.unit (s := S8x128x256) ![0, 0, 128] S8x128x128.size inb_S8x128x256_S8x128x128_0_0_128).toLoadRect (ix3 b f l)).trans (congrArg x4 (funext fun a => Fin.ext ?_))
  refine (ValueKit.rect_emb_unit_val _ _ _ _ a).trans ?_
  match a with
  | ⟨0, _⟩ => exact Nat.zero_add _
  | ⟨1, _⟩ => exact Nat.zero_add _
  | ⟨2, _⟩ => rfl

section Words
variable (c : Dev nD) (i : grid0.Coords) (arg2 : Memref sig .tc .vmem S1x10 .f32) (harg2 : arg2.IsWhole) (arg3 : Memref sig .tc .vmem S1x128 .f32)
  (harg3 : arg3.IsWhole) (arg4 : Memref sig .tc .vmem S1x128 .f32) (harg4 : arg4.IsWhole) (arg5 : Memref sig .tc .vmem S1x128 .f32) (harg5 : arg5.IsWhole)
  (arg6 : Memref sig .tc .vmem S8x128x256 .f32) (harg6 : arg6.IsWhole) (arg7 : Memref sig .tc .vmem S8x10x128x256 .f32) (harg7 : arg7.IsWhole)
  (arg8 : Memref sig .tc .vmem S256x1408 .f32) (harg8 : arg8.IsWhole) (arg9 : Memref sig .tc .vmem S1024x256 .f32) (harg9 : arg9.IsWhole)
  (x0 : Vec Ideal S1x10 .f32) (x1 x2 x3 : Vec Ideal S1x128 .f32) (x4 : Vec Ideal S8x128x256 .f32) (xs0 : Vec Ideal S256x1408 .f32) (xs1 : Vec Ideal S1024x256 .f32)

/-- The loads of the two scratch buffers at a later point. -/
def uB : Vec Ideal S256x1408 .f32 :=
  View.readAt (Elt Ideal) arg8.view (Rect.unit ![0, 0] S256x1408.size inb_S256x1408_S256x1408_0_0).toLoadRect (harg8.unread xs0)
def wB : Vec Ideal S1024x256 .f32 :=
  View.readAt (Elt Ideal) arg9.view (Rect.unit ![0, 0] S1024x256.size inb_S1024x256_S1024x256_0_0).toLoadRect
    (arg9.view.writes (Elt Ideal) (harg9.unread xs1) (kernelRun0_B.sl.HS1_1 c arg6 harg6 x4))

theorem listA (hc0 : cond0_0 i) : (kernelRun0_A c i arg2 harg2 arg3 harg3 arg4 harg4 arg5 harg5 arg6 harg6 arg7 harg7 arg8 harg8 arg9 harg9 hc0 x0 x1 x2 x3 x4).1
    = oList (k0_pay79 (ldRow arg3 harg3 x1)) (k0_pay80 (ldRow arg4 harg4 x2)) (k0_pay81 (ldRow arg4 harg4 x2) (ldRow arg5 harg5 x3))
      (k0_pay83 (kernelRun0_A.sl.v29 c arg6 harg6 arg9 x4) (kernelRun0_A.sl.v30 c arg2 harg2 arg8 x0))
      (k0_pay83 (kernelRun0_A.sl.v261 c arg2 harg2 arg6 harg6 arg8 arg9 x0 x4) (kernelRun0_A.sl.v30 c arg2 harg2 arg8 x0))
      (ldL arg6 harg6 x4) (ldR arg6 harg6 x4) := by
  unfold kernelRun0_A
  rfl

theorem listB (hc0 : ¬ cond0_0 i) : (kernelRun0_B c i arg2 harg2 arg3 harg3 arg4 harg4 arg5 harg5 arg6 harg6 arg7 harg7 arg8 harg8 arg9 harg9 hc0 x0 x1 x2 x3 x4 xs0 xs1).1
    = oList (k0_pay79 (ldRow arg3 harg3 x1)) (k0_pay80 (ldRow arg4 harg4 x2)) (k0_pay81 (ldRow arg4 harg4 x2) (ldRow arg5 harg5 x3))
      (k0_pay83 (wB c arg6 harg6 arg9 harg9 x4 xs1) (uB arg8 harg8 xs0))
      (k0_pay83 (kernelRun0_B.sl.v261 c arg6 harg6 arg8 harg8 arg9 harg9 x4 xs0 xs1) (uB arg8 harg8 xs0))
      (ldL arg6 harg6 x4) (ldR arg6 harg6 x4) := by
  unfold kernelRun0_B
  rfl

theorem stateA (hc0 : cond0_0 i) : ∃ rest, (kernelRun0_A c i arg2 harg2 arg3 harg3 arg4 harg4 arg5 harg5 arg6 harg6 arg7 harg7 arg8 harg8 arg9 harg9 hc0 x0 x1 x2 x3 x4).2.2.1
    = pL (k0_pay103 (kernelRun0_A.sl.v261 c arg2 harg2 arg6 harg6 arg8 arg9 x0 x4) (kernelRun0_A.sl.v30 c arg2 harg2 arg8 x0)) :: rest := by
  unfold kernelRun0_A
  exact ⟨_, rfl⟩

theorem stateB (hc0 : ¬ cond0_0 i) : ∃ rest, (kernelRun0_B c i arg2 harg2 arg3 harg3 arg4 harg4 arg5 harg5 arg6 harg6 arg7 harg7 arg8 harg8 arg9 harg9 hc0 x0 x1 x2 x3 x4 xs0 xs1).2.2.1
    = pL (k0_pay103 (kernelRun0_B.sl.v261 c arg6 harg6 arg8 harg8 arg9 harg9 x4 xs0 xs1) (uB arg8 harg8 xs0)) :: rest := by
  unfold kernelRun0_B
  exact ⟨_, rfl⟩

theorem uA_eq : kernelRun0_A.sl.v30 c arg2 harg2 arg8 x0 = View.canon (kernelRun0_A.sl.HS0_41 c arg2 harg2 x0) := by
  refine (View.readCov_eq_canon' _ _ _).trans (funext fun y => congrArg _ (idxFull _ y))

theorem uB_eq : uB arg8 harg8 xs0 = xs0 := by
  funext y
  exact (harg8.readAt_unread xs0 (Rect.unit ![0, 0] S256x1408.size inb_S256x1408_S256x1408_0_0).toLoadRect y).trans (congrArg xs0 (idxFull _ y))

/-- The left factor of the first product at the first point of a run of time blocks. -/
theorem wA1_eq : kernelRun0_A.sl.v29 c arg6 harg6 arg9 x4 = View.canon [pR (k0_pay82 x4), pL (k0_pay78 x4)] := by
  refine (View.readCov_eq_canon' _ _ _).trans (funext fun y => (congrArg _ (idxFull _ y)).trans ?_)
  show View.canon [pR (k0_pay82 (ldX arg6 harg6 x4)), pL (k0_pay78 (ldX arg6 harg6 x4))] y = _
  rw [ldX_eq]

/-- The left factor of the second product there. -/
theorem wA2_eq : ∃ rest, kernelRun0_A.sl.v261 c arg2 harg2 arg6 harg6 arg8 arg9 x0 x4
    = View.canon (pR (k0_pay101 (k0_pay74 x4)) :: pL (k0_pay85 (k0_pay84 (kernelRun0_A.sl.v29 c arg6 harg6 arg9 x4) (kernelRun0_A.sl.v30 c arg2 harg2 arg8 x0))) :: rest) := by
  refine ⟨kernelRun0_A.sl.HS1_2 c arg6 harg6 x4, (View.readCov_eq_canon' _ _ _).trans (funext fun y => (congrArg _ (idxFull _ y)).trans ?_)⟩
  show View.canon (pR (k0_pay101 (k0_pay74 (ldX arg6 harg6 x4))) :: pL _ :: _) y = _
  rw [ldX_eq]
  rfl

/-- The left factor of the second product at a later point. -/
theorem wB2_eq : ∃ rest, kernelRun0_B.sl.v261 c arg6 harg6 arg8 harg8 arg9 harg9 x4 xs0 xs1
    = View.canon (pR (k0_pay101 (k0_pay74 x4)) :: pL (k0_pay85 (k0_pay84 (wB c arg6 harg6 arg9 harg9 x4 xs1) (uB arg8 harg8 xs0))) :: rest) := by
  refine ⟨kernelRun0_B.sl.HS1_1 c arg6 harg6 x4, (View.readCov_eq_canon' _ _ _).trans (funext fun y => (congrArg _ (idxFull _ y)).trans ?_)⟩
  show View.canon (pR (k0_pay101 (k0_pay74 (ldX arg6 harg6 x4))) :: pL _ :: _) y = _
  rw [ldX_eq]
  rfl

/-- The left factor of the first product at a later point: the carried left half, and the samples on the right. -/
theorem wB_left (j : Fin 1024) (q : Fin 128) : wB c arg6 harg6 arg9 harg9 x4 xs1 (ix2 j ⟨q.val, by omega⟩) = xs1 (ix2 j ⟨q.val, by omega⟩) := by
  refine (View.readAt_apply _ _ _).trans ((congrArg _ (idxFull _ _)).trans ?_)
  refine (View.read_writes_cons_unit_of_not_mem _ _ _ _ _ _ rfl 1 (Or.inl (show q.val < 128 from q.isLt))).trans ?_
  exact congrFun (harg9.read_unread xs1) _

theorem wB_right (j : Fin 1024) (q : Fin 128) : wB c arg6 harg6 arg9 harg9 x4 xs1 (ix2 j ⟨128 + q.val, by omega⟩) = k0_pay82 x4 (ix2 j q) := by
  refine (View.readAt_apply _ _ _).trans ((congrArg _ (idxFull _ _)).trans ?_)
  refine (View.read_writes_cons_unit_of_mem _ _ _ _ _ _ (ix2 j q) rfl (fun a => ?_)).trans ?_
  · match a with
    | ⟨0, _⟩ => exact (Nat.zero_add _).symm
    | ⟨1, _⟩ => rfl
  · show k0_pay82 (ldX arg6 harg6 x4) _ = _
    rw [ldX_eq]

end Words

end Cert.Pcen
end
end
-- ==== Proof.Target.lean ====
module

public import proofs.«01_k».proof.Proof.Math
public import Idealize.ShloMosaic.Lib.Pointwise

/-! The common result of the two programs, as a function of the five arrays. -/

@[expose] public section
set_option backward.proofsInPublic true
noncomputable section
namespace Cert.Pcen
open Idealize.ShloMosaic

/-- The small constant under the logarithm, which both programs hold as one literal. -/
def epsI : EReal := Ideal.ofBits .f32 0x3727C5AC#32

theorem epsI_coe : ∃ e : ℝ, 0 < e ∧ epsI = (e : EReal) := by
  refine ⟨10995116 / 2 ^ 40, by norm_num, ?_⟩
  simp [epsI, Ideal.ofBits, Ideal.ieee, -EReal.coe_mul]
  norm_num

/-- The samples of one frequency of one recording, as a sequence. -/
def samples (X : (⟨3, ![16, 128, 2048]⟩ : Shape).Idx → EReal) (b : Fin 16) (f : Fin 128) (t : ℕ) : EReal :=
  if h : t < 2048 then X (ix3 b f ⟨t, h⟩) else 0

theorem samples_of_lt (X : (⟨3, ![16, 128, 2048]⟩ : Shape).Idx → EReal) (b : Fin 16) (f : Fin 128) (t : Fin 2048) : samples X b f t.val = X (ix3 b f t) :=
  dif_pos t.isLt

theorem samples_nonneg {X : (⟨3, ![16, 128, 2048]⟩ : Shape).Idx → EReal} (hX : ∀ y, 0 ≤ X y) (b : Fin 16) (f : Fin 128) (t : ℕ) : 0 ≤ samples X b f t := by
  unfold samples
  split
  · exact hX _
  · exact le_refl _

/-- The result at recording `b`, smoothing channel `k`, frequency `f` and time `t`. -/
def tgt (X : (⟨3, ![16, 128, 2048]⟩ : Shape).Idx → EReal) (S : (⟨1, ![10]⟩ : Shape).Idx → EReal) (A D R : (⟨1, ![128]⟩ : Shape).Idx → EReal)
    (b : Fin 16) (k : Fin 10) (f : Fin 128) (t : Fin 2048) : EReal :=
  pcen epsI (smo (Ideal.exp (S (ix1 k))) (samples X b f) t.val) (X (ix3 b f t)) (Ideal.exp (A (ix1 f))) (Ideal.exp (D (ix1 f))) (Ideal.exp (R (ix1 f)))

end Cert.Pcen
end
end
-- ==== Proof.KPoint.lean ====
module

public import proofs.«01_k».proof.Proof.KVal
public import proofs.«01_k».proof.Proof.Target

/-! What one grid point leaves, from the samples of its block and the state before it, and the two cases of the kernel's
condition: the first point of a run of time blocks and a later one. -/

@[expose] public section
set_option maxRecDepth 16384
set_option backward.proofsInPublic true
noncomputable section
namespace Cert.Pcen
open Cert.KernelIdeal Cert.KernelIdeal.Gen Idealize.ShloMosaic Idealize.ShloMosaic.TcCoe Idealize.SL.Sem

/-- The state before sample `t` of a signal: it is not negative, and the next step of the recursion from it is the signal's. -/
def Before (r : ℝ) (x : ℕ → EReal) (t : ℕ) (C : EReal) : Prop :=
  0 ≤ C ∧ (1 - (r : EReal)) * C + (r : EReal) * x t = smo r x t

theorem before_zero {r : ℝ} (h0 : 0 ≤ r) (h1 : r ≤ 1) {x : ℕ → EReal} (hx : ∀ t, 0 ≤ x t) : Before r x 0 (x 0) :=
  ⟨hx 0, start_zero h0 h1 hx⟩

theorem before_succ {r : ℝ} (h0 : 0 ≤ r) (h1 : r ≤ 1) {x : ℕ → EReal} (hx : ∀ t, 0 ≤ x t) (t : ℕ) : Before r x (t + 1) (smo r x t) :=
  ⟨smo_nonneg h0 h1 hx t, rfl⟩

section Point
variable {r : Fin 10 → ℝ} (h0 : ∀ k, 0 ≤ r k) (h1 : ∀ k, r k ≤ 1) {U : Vec Ideal S256x1408 .f32} (hU : ∀ y, U y = uF r y)
  {x : Fin 8 → Fin 128 → ℕ → EReal} (hx : ∀ b f t, 0 ≤ x b f t) {T : ℕ} {X : Vec Ideal S8x128x256 .f32}
  (hX : ∀ b f (t : Fin 256), X (ix3 b f t) = x b f (T + t.val)) {w1 w2 : Vec Ideal S1024x256 .f32}
  (h1L : ∀ b f (k : Fin 10), Before (r k) (x b f) T (w1 (ix2 (rowOf b f) ⟨k.val, by omega⟩)))
  (h1R : ∀ j (q : Fin 128), w1 (ix2 j ⟨128 + q.val, by omega⟩) = k0_pay82 X (ix2 j q))
  (h2L : ∀ j (q : Fin 128), w2 (ix2 j ⟨q.val, by omega⟩) = k0_pay83 w1 U (ix2 j ⟨1280 + q.val, by omega⟩))
  (h2R : ∀ j (q : Fin 128), w2 (ix2 j ⟨128 + q.val, by omega⟩) = k0_pay101 (k0_pay74 X) (ix2 j q))
include h0 h1 hU hx hX h1L h1R

/-- The first product: the smoothed signal over the first half of the block. -/
theorem first_out (b : Fin 8) (f : Fin 128) (k : Fin 10) (l : Fin 128) :
    k0_pay83 w1 U (ix2 (rowOf b f) ⟨128 * k.val + l.val, by omega⟩) = smo (r k) (x b f) (T + l.val) :=
  half_out h0 h1 hU w1 (rowOf b f) k (x b f) (hx b f) T (h1L b f k).1 (h1L b f k).2
    (fun j hj => by rw [h1R _ ⟨j, hj⟩, pay82_apply, hX]) l

theorem first_carry (b : Fin 8) (f : Fin 128) (k : Fin 10) :
    k0_pay83 w1 U (ix2 (rowOf b f) ⟨1280 + k.val, by omega⟩) = smo (r k) (x b f) (T + 127) :=
  half_carry h0 h1 hU w1 (rowOf b f) k (x b f) (hx b f) T (h1L b f k).1 (h1L b f k).2
    (fun j hj => by rw [h1R _ ⟨j, hj⟩, pay82_apply, hX])

include h2L h2R

theorem second_before (b : Fin 8) (f : Fin 128) (k : Fin 10) : Before (r k) (x b f) (T + 128) (w2 (ix2 (rowOf b f) ⟨k.val, by omega⟩)) := by
  rw [h2L _ ⟨k.val, by omega⟩, first_carry h0 h1 hU hx hX h1L h1R]
  exact before_succ (h0 k) (h1 k) (hx b f) (T + 127)

/-- The second product: the smoothed signal over the second half of the block. -/
theorem second_out (b : Fin 8) (f : Fin 128) (k : Fin 10) (l : Fin 128) :
    k0_pay83 w2 U (ix2 (rowOf b f) ⟨128 * k.val + l.val, by omega⟩) = smo (r k) (x b f) (T + 128 + l.val) :=
  have hb := second_before h0 h1 hU hx hX h1L h1R h2L h2R b f k
  half_out h0 h1 hU w2 (rowOf b f) k (x b f) (hx b f) (T + 128) hb.1 hb.2
    (fun j hj => by rw [h2R _ ⟨j, hj⟩, pay101_apply, hX]; exact congrArg _ (Nat.add_assoc _ _ _).symm) l

theorem second_carry (b : Fin 8) (f : Fin 128) (k : Fin 10) :
    k0_pay103 w2 U (ix2 (rowOf b f) ⟨k.val, by omega⟩) = smo (r k) (x b f) (T + 255) := by
  have hb := second_before h0 h1 hU hx hX h1L h1R h2L h2R b f k
  rw [pay103_apply]
  exact half_carry h0 h1 hU w2 (rowOf b f) k (x b f) (hx b f) (T + 128) hb.1 hb.2
    (fun j hj => by rw [h2R _ ⟨j, hj⟩, pay101_apply, hX]; exact congrArg _ (Nat.add_assoc _ _ _).symm)

/-- The block of outputs of a point: the formula at every smoothed sample. -/
theorem point_out (x1 x2 x3 : Vec Ideal S1x128 .f32) (hq : ∀ f, Ideal.exp (x3 (ix2 0 f)) = (((1 / 4 : ℝ)) : EReal))
    (xl xr : Vec Ideal S8x128x128 .f32) (hxl : ∀ b f (l : Fin 128), xl (ix3 b f l) = X (ix3 b f ⟨l.val, by omega⟩))
    (hxr : ∀ b f (l : Fin 128), xr (ix3 b f l) = X (ix3 b f ⟨128 + l.val, by omega⟩)) (b : Fin 8) (k : Fin 10) (f : Fin 128) (t : Fin 256) :
    View.canon (oList (k0_pay79 x1) (k0_pay80 x2) (k0_pay81 x2 x3) (k0_pay83 w1 U) (k0_pay83 w2 U) xl xr) (ix4 b k f t)
      = pcen epsI (smo (r k) (x b f) (T + t.val)) (x b f (T + t.val)) (Ideal.exp (x1 (ix2 0 f))) (Ideal.exp (x2 (ix2 0 f))) (Ideal.exp (x3 (ix2 0 f))) := by
  obtain ⟨e, he, hee⟩ := epsI_coe
  have key : ∀ (h : Fin 2) (l : Fin 128) (m : FVec Ideal S1024x1408 .f32) (xx : Vec Ideal S8x128x128 .f32),
      m (ix2 (rowOf b f) ⟨128 * k.val + l.val, by omega⟩) = smo (r k) (x b f) (T + (128 * h.val + l.val)) →
      xx (ix3 b f l) = x b f (T + (128 * h.val + l.val)) →
      outP k (k0_pay79 x1) (k0_pay80 x2) (k0_pay81 x2 x3) m xx (ix4 b 0 f l)
        = pcen epsI (smo (r k) (x b f) (T + (128 * h.val + l.val))) (x b f (T + (128 * h.val + l.val))) (Ideal.exp (x1 (ix2 0 f))) (Ideal.exp (x2 (ix2 0 f))) (Ideal.exp (x3 (ix2 0 f))) := by
    intro h l m xx hm hxx
    rw [outP_apply, hxx, pay79_apply, pay80_apply, pay81_apply]
    rw [show m (ix2 ⟨b.val * 128 + f.val, _⟩ ⟨128 * k.val + l.val, _⟩) = _ from hm, show Ideal.ofBits .f32 0x3727C5AC#32 = (e : EReal) from hee, hee]
    exact kernel_pcen he (smo_nonneg (h0 k) (h1 k) (hx b f) _) (hx b f _) (exp_nonneg _) (hq f)
  have main : ∀ (h : Fin 2) (l : Fin 128) (t : Fin 256), t.val = 128 * h.val + l.val →
      View.canon (oList (k0_pay79 x1) (k0_pay80 x2) (k0_pay81 x2 x3) (k0_pay83 w1 U) (k0_pay83 w2 U) xl xr) (ix4 b k f t)
        = pcen epsI (smo (r k) (x b f) (T + t.val)) (x b f (T + t.val)) (Ideal.exp (x1 (ix2 0 f))) (Ideal.exp (x2 (ix2 0 f))) (Ideal.exp (x3 (ix2 0 f))) := by
    intro h l t ht
    have hlt : 128 * h.val + l.val < 256 := by omega
    obtain rfl : t = ⟨128 * h.val + l.val, hlt⟩ := Fin.ext ht
    refine (oList_canon (k0_pay79 x1) (k0_pay80 x2) (k0_pay81 x2 x3) ![k0_pay83 w1 U, k0_pay83 w2 U] ![xl, xr] b k f h l).trans (key h l _ _ ?_ ?_)
    · match h with
      | ⟨0, _⟩ => exact (first_out h0 h1 hU hx hX h1L h1R b f k l).trans (congrArg _ (congrArg (T + ·) (show l.val = 128 * 0 + l.val by omega)))
      | ⟨1, _⟩ => exact (second_out h0 h1 hU hx hX h1L h1R h2L h2R b f k l).trans (congrArg _ (show T + 128 + l.val = T + (128 * 1 + l.val) by omega))
    · match h with
      | ⟨0, _⟩ => exact (hxl b f l).trans ((hX _ _ _).trans (congrArg _ (congrArg (T + ·) (show l.val = 128 * 0 + l.val by omega))))
      | ⟨1, _⟩ => exact (hxr b f l).trans (hX _ _ _)
  exact main ⟨t.val / 128, by omega⟩ ⟨t.val % 128, by omega⟩ t (Nat.div_add_mod _ _).symm

end Point

section Cases
variable {r : Fin 10 → ℝ} (h0 : ∀ k, 0 ≤ r k) (h1 : ∀ k, r k ≤ 1) {x : Fin 8 → Fin 128 → ℕ → EReal} (hx : ∀ b f t, 0 ≤ x b f t)
  (c : Dev nD) (i : grid0.Coords) (arg2 : Memref sig .tc .vmem S1x10 .f32) (harg2 : arg2.IsWhole) (arg3 : Memref sig .tc .vmem S1x128 .f32)
  (harg3 : arg3.IsWhole) (arg4 : Memref sig .tc .vmem S1x128 .f32) (harg4 : arg4.IsWhole) (arg5 : Memref sig .tc .vmem S1x128 .f32) (harg5 : arg5.IsWhole)
  (arg6 : Memref sig .tc .vmem S8x128x256 .f32) (harg6 : arg6.IsWhole) (arg7 : Memref sig .tc .vmem S8x10x128x256 .f32) (harg7 : arg7.IsWhole)
  (arg8 : Memref sig .tc .vmem S256x1408 .f32) (harg8 : arg8.IsWhole) (arg9 : Memref sig .tc .vmem S1024x256 .f32) (harg9 : arg9.IsWhole)
  (x0 : Vec Ideal S1x10 .f32) (x1 x2 x3 : Vec Ideal S1x128 .f32) (x4 : Vec Ideal S8x128x256 .f32) (xs0 : Vec Ideal S256x1408 .f32) (xs1 : Vec Ideal S1024x256 .f32)
  (hr : ∀ k, Ideal.exp (x0 (ix2 0 k)) = (r k : EReal)) (hq : ∀ f, Ideal.exp (x3 (ix2 0 f)) = (((1 / 4 : ℝ)) : EReal))

/-- What a point whose block starts at sample `T` leaves, of the three buffers it writes. -/
def Left (r : Fin 10 → ℝ) (x : Fin 8 → Fin 128 → ℕ → EReal) (x1 x2 x3 : Vec Ideal S1x128 .f32) (T : ℕ)
    (o : Vec Ideal S8x10x128x256 .f32) (u : Vec Ideal S256x1408 .f32) (w : Vec Ideal S1024x256 .f32) : Prop :=
  (∀ b k f (t : Fin 256), o (ix4 b k f t) = pcen epsI (smo (r k) (x b f) (T + t.val)) (x b f (T + t.val))
      (Ideal.exp (x1 (ix2 0 f))) (Ideal.exp (x2 (ix2 0 f))) (Ideal.exp (x3 (ix2 0 f))))
  ∧ (∀ y, u y = uF r y)
  ∧ ∀ b f (k : Fin 10), w (ix2 (rowOf b f) ⟨k.val, lt_state k⟩) = smo (r k) (x b f) (T + 255)

theorem outA_eq (hc0 : cond0_0 i) : out0_A_5 c i arg2 harg2 arg3 harg3 arg4 harg4 arg5 harg5 arg6 harg6 arg7 harg7 arg8 harg8 arg9 harg9 hc0 x0 x1 x2 x3 x4 = View.canon (oList (k0_pay79 x1) (k0_pay80 x2) (k0_pay81 x2 x3)
    (k0_pay83 (kernelRun0_A.sl.v29 c arg6 harg6 arg9 x4) (kernelRun0_A.sl.v30 c arg2 harg2 arg8 x0)) (k0_pay83 (kernelRun0_A.sl.v261 c arg2 harg2 arg6 harg6 arg8 arg9 x0 x4) (kernelRun0_A.sl.v30 c arg2 harg2 arg8 x0)) (ldL arg6 harg6 x4) (ldR arg6 harg6 x4)) := by
  unfold out0_A_5
  rw [View.read_writes_junk_eq_canon, listA, ldRow_eq, ldRow_eq, ldRow_eq]

theorem soutA0_eq (hc0 : cond0_0 i) : sout0_A_0 c i arg2 harg2 arg3 harg3 arg4 harg4 arg5 harg5 arg6 harg6 arg7 harg7 arg8 harg8 arg9 harg9 hc0 x0 x1 x2 x3 x4 = View.canon (kernelRun0_A.sl.HS0_41 c arg2 harg2 x0) := by
  unfold sout0_A_0
  rw [View.read_writes_junk_eq_canon]
  unfold kernelRun0_A
  rfl

theorem soutA1_eq (hc0 : cond0_0 i) : ∃ rest, sout0_A_1 c i arg2 harg2 arg3 harg3 arg4 harg4 arg5 harg5 arg6 harg6 arg7 harg7 arg8 harg8 arg9 harg9 hc0 x0 x1 x2 x3 x4 = View.canon (pL (k0_pay103 (kernelRun0_A.sl.v261 c arg2 harg2 arg6 harg6 arg8 arg9 x0 x4) (kernelRun0_A.sl.v30 c arg2 harg2 arg8 x0)) :: rest) := by
  obtain ⟨rest, hs⟩ := stateA c i arg2 harg2 arg3 harg3 arg4 harg4 arg5 harg5 arg6 harg6 arg7 harg7 arg8 harg8 arg9 harg9 x0 x1 x2 x3 x4 hc0
  refine ⟨rest, ?_⟩
  unfold sout0_A_1
  rw [View.read_writes_junk_eq_canon, hs]

theorem outB_eq (hc0 : ¬ cond0_0 i) : out0_B_5 c i arg2 harg2 arg3 harg3 arg4 harg4 arg5 harg5 arg6 harg6 arg7 harg7 arg8 harg8 arg9 harg9 hc0 x0 x1 x2 x3 x4 xs0 xs1 = View.canon (oList (k0_pay79 x1) (k0_pay80 x2) (k0_pay81 x2 x3)
    (k0_pay83 (wB c arg6 harg6 arg9 harg9 x4 xs1) (uB arg8 harg8 xs0)) (k0_pay83 (kernelRun0_B.sl.v261 c arg6 harg6 arg8 harg8 arg9 harg9 x4 xs0 xs1) (uB arg8 harg8 xs0)) (ldL arg6 harg6 x4) (ldR arg6 harg6 x4)) := by
  unfold out0_B_5
  rw [View.read_writes_junk_eq_canon, listB, ldRow_eq, ldRow_eq, ldRow_eq]

theorem soutB1_eq (hc0 : ¬ cond0_0 i) : ∃ rest, sout0_B_1 c i arg2 harg2 arg3 harg3 arg4 harg4 arg5 harg5 arg6 harg6 arg7 harg7 arg8 harg8 arg9 harg9 hc0 x0 x1 x2 x3 x4 xs0 xs1 = View.canon (pL (k0_pay103 (kernelRun0_B.sl.v261 c arg6 harg6 arg8 harg8 arg9 harg9 x4 xs0 xs1) (uB arg8 harg8 xs0)) :: rest) := by
  obtain ⟨rest, hs⟩ := stateB c i arg2 harg2 arg3 harg3 arg4 harg4 arg5 harg5 arg6 harg6 arg7 harg7 arg8 harg8 arg9 harg9 x0 x1 x2 x3 x4 xs0 xs1 hc0
  refine ⟨rest, ?_⟩
  unfold sout0_B_1
  rw [View.read_writes_junk_eq_canon, hs]

include h0 h1 hx hr hq

/-- The first point of a run of time blocks. -/
theorem caseA (hc0 : cond0_0 i) (hX : ∀ b f (t : Fin 256), x4 (ix3 b f t) = x b f (0 + t.val)) :
    Left r x x1 x2 x3 0 (out0_A_5 c i arg2 harg2 arg3 harg3 arg4 harg4 arg5 harg5 arg6 harg6 arg7 harg7 arg8 harg8 arg9 harg9 hc0 x0 x1 x2 x3 x4) (sout0_A_0 c i arg2 harg2 arg3 harg3 arg4 harg4 arg5 harg5 arg6 harg6 arg7 harg7 arg8 harg8 arg9 harg9 hc0 x0 x1 x2 x3 x4) (sout0_A_1 c i arg2 harg2 arg3 harg3 arg4 harg4 arg5 harg5 arg6 harg6 arg7 harg7 arg8 harg8 arg9 harg9 hc0 x0 x1 x2 x3 x4) := by
  have hU : ∀ y, kernelRun0_A.sl.v30 c arg2 harg2 arg8 x0 y = uF r y := fun y => by
    rw [uA_eq]; exact uMat h1 hr y c arg2 harg2
  have h1L : ∀ b f (k : Fin 10), Before (r k) (x b f) 0 (kernelRun0_A.sl.v29 c arg6 harg6 arg9 x4 (ix2 (rowOf b f) ⟨k.val, lt_state k⟩)) := fun b f k => by
    rw [wA1_eq]
    have := (canon_RL (k0_pay82 x4) (k0_pay78 x4) [] (rowOf b f) ⟨k.val, by omega⟩).trans ((pay78_apply x4 b f _).trans (hX b f 0))
    exact (congrArg (Before (r k) (x b f) 0) this).mpr (before_zero (h0 k) (h1 k) (hx b f))
  have h1R : ∀ j (q : Fin 128), kernelRun0_A.sl.v29 c arg6 harg6 arg9 x4 (ix2 j ⟨128 + q.val, by omega⟩) = k0_pay82 x4 (ix2 j q) := fun j q => by
    rw [wA1_eq]; exact canon_R _ _ j q
  obtain ⟨rest, hw2⟩ := wA2_eq c arg2 harg2 arg6 harg6 arg8 arg9 x0 x4
  have h2L : ∀ j (q : Fin 128), kernelRun0_A.sl.v261 c arg2 harg2 arg6 harg6 arg8 arg9 x0 x4 (ix2 j ⟨q.val, by omega⟩)
      = k0_pay83 (kernelRun0_A.sl.v29 c arg6 harg6 arg9 x4) (kernelRun0_A.sl.v30 c arg2 harg2 arg8 x0) (ix2 j ⟨1280 + q.val, by omega⟩) := fun j q => by
    rw [hw2]; exact (canon_RL _ _ _ j q).trans (pay85_apply _ _ j q)
  have h2R : ∀ j (q : Fin 128), kernelRun0_A.sl.v261 c arg2 harg2 arg6 harg6 arg8 arg9 x0 x4 (ix2 j ⟨128 + q.val, by omega⟩)
      = k0_pay101 (k0_pay74 x4) (ix2 j q) := fun j q => by
    rw [hw2]; exact canon_R _ _ j q
  refine ⟨fun b k f t => ?_, fun y => ?_, fun b f k => ?_⟩
  · have e := congrFun (outA_eq c i arg2 harg2 arg3 harg3 arg4 harg4 arg5 harg5 arg6 harg6 arg7 harg7 arg8 harg8 arg9 harg9 x0 x1 x2 x3 x4 hc0) (ix4 b k f t)
    have p := point_out h0 h1 hU hx hX h1L h1R h2L h2R x1 x2 x3 hq _ _ (ldL_apply arg6 harg6 x4) (ldR_apply arg6 harg6 x4) b k f t
    exact e.trans p
  · exact (congrFun (soutA0_eq c i arg2 harg2 arg3 harg3 arg4 harg4 arg5 harg5 arg6 harg6 arg7 harg7 arg8 harg8 arg9 harg9 x0 x1 x2 x3 x4 hc0) _).trans (uMat h1 hr y c arg2 harg2)
  · obtain ⟨rest', hs⟩ := soutA1_eq c i arg2 harg2 arg3 harg3 arg4 harg4 arg5 harg5 arg6 harg6 arg7 harg7 arg8 harg8 arg9 harg9 x0 x1 x2 x3 x4 hc0
    exact (congrFun hs _).trans ((canon_L _ _ (rowOf b f) ⟨k.val, by omega⟩).trans (second_carry h0 h1 hU hx hX h1L h1R h2L h2R b f k))

/-- A later point, from what the point before it left. -/
theorem caseB (hc0 : ¬ cond0_0 i) {T : ℕ} (hX : ∀ b f (t : Fin 256), x4 (ix3 b f t) = x b f (T + 1 + t.val))
    (hU : ∀ y, xs0 y = uF r y) (hS : ∀ b f (k : Fin 10), xs1 (ix2 (rowOf b f) ⟨k.val, lt_state k⟩) = smo (r k) (x b f) T) :
    Left r x x1 x2 x3 (T + 1) (out0_B_5 c i arg2 harg2 arg3 harg3 arg4 harg4 arg5 harg5 arg6 harg6 arg7 harg7 arg8 harg8 arg9 harg9 hc0 x0 x1 x2 x3 x4 xs0 xs1) (sout0_B_0 c i arg2 harg2 arg3 harg3 arg4 harg4 arg5 harg5 arg6 harg6 arg7 harg7 arg8 harg8 arg9 harg9 hc0 x0 x1 x2 x3 x4 xs0 xs1) (sout0_B_1 c i arg2 harg2 arg3 harg3 arg4 harg4 arg5 harg5 arg6 harg6 arg7 harg7 arg8 harg8 arg9 harg9 hc0 x0 x1 x2 x3 x4 xs0 xs1) := by
  have hU' : ∀ y, uB arg8 harg8 xs0 y = uF r y := fun y => by rw [uB_eq]; exact hU y
  have h1L : ∀ b f (k : Fin 10), Before (r k) (x b f) (T + 1) (wB c arg6 harg6 arg9 harg9 x4 xs1 (ix2 (rowOf b f) ⟨k.val, lt_state k⟩)) := fun b f k => by
    have := (wB_left c arg6 harg6 arg9 harg9 x4 xs1 (rowOf b f) ⟨k.val, by omega⟩).trans (hS b f k)
    exact (congrArg (Before (r k) (x b f) (T + 1)) this).mpr (before_succ (h0 k) (h1 k) (hx b f) T)
  have h1R := wB_right c arg6 harg6 arg9 harg9 x4 xs1
  obtain ⟨rest, hw2⟩ := wB2_eq c arg6 harg6 arg8 harg8 arg9 harg9 x4 xs0 xs1
  have h2L : ∀ j (q : Fin 128), kernelRun0_B.sl.v261 c arg6 harg6 arg8 harg8 arg9 harg9 x4 xs0 xs1 (ix2 j ⟨q.val, by omega⟩)
      = k0_pay83 (wB c arg6 harg6 arg9 harg9 x4 xs1) (uB arg8 harg8 xs0) (ix2 j ⟨1280 + q.val, by omega⟩) := fun j q => by
    rw [hw2]; exact (canon_RL _ _ _ j q).trans (pay85_apply _ _ j q)
  have h2R : ∀ j (q : Fin 128), kernelRun0_B.sl.v261 c arg6 harg6 arg8 harg8 arg9 harg9 x4 xs0 xs1 (ix2 j ⟨128 + q.val, by omega⟩)
      = k0_pay101 (k0_pay74 x4) (ix2 j q) := fun j q => by
    rw [hw2]; exact canon_R _ _ j q
  refine ⟨fun b k f t => ?_, hU, fun b f k => ?_⟩
  · have e := congrFun (outB_eq c i arg2 harg2 arg3 harg3 arg4 harg4 arg5 harg5 arg6 harg6 arg7 harg7 arg8 harg8 arg9 harg9 x0 x1 x2 x3 x4 xs0 xs1 hc0) (ix4 b k f t)
    have p := point_out h0 h1 hU' hx hX h1L h1R h2L h2R x1 x2 x3 hq _ _ (ldL_apply arg6 harg6 x4) (ldR_apply arg6 harg6 x4) b k f t
    exact e.trans p
  · obtain ⟨rest', hs⟩ := soutB1_eq c i arg2 harg2 arg3 harg3 arg4 harg4 arg5 harg5 arg6 harg6 arg7 harg7 arg8 harg8 arg9 harg9 x0 x1 x2 x3 x4 xs0 xs1 hc0
    exact (congrFun hs _).trans ((canon_L _ _ (rowOf b f) ⟨k.val, by omega⟩).trans (second_carry h0 h1 hU' hx hX h1L h1R h2L h2R b f k))

end Cases

end Cert.Pcen
end
end
-- ==== Proof.KRun.lean ====
module

public import proofs.«01_k».proof.Proof.KPoint
public import proofs.«01_k».proof.Proof.Gen.KernelIdeal.Value

/-! The kernel's result: by induction over the grid's points, every point leaves its block of the common result. -/

@[expose] public section
set_option maxRecDepth 16384
set_option backward.proofsInPublic true
noncomputable section
namespace Cert.Pcen
open Cert.KernelIdeal Cert.KernelIdeal.Gen Cert.KernelIdeal.Value Idealize.ShloMosaic Idealize.ShloMosaic.TcCoe Idealize.SL.Sem

variable (m : (ℓ : Loc nD τ Cert.KernelIdeal.sig) → Buf (Elt Ideal) ℓ) (c : Dev nD)

/-- The five arrays. -/
abbrev argX : S16x128x2048.Idx → EReal := m ((c.tc : Thread nD τ).loc main_arg0)
abbrev argS : S10.Idx → EReal := m ((c.tc : Thread nD τ).loc main_arg1)
abbrev argA : S128.Idx → EReal := m ((c.tc : Thread nD τ).loc main_arg2)
abbrev argD : S128.Idx → EReal := m ((c.tc : Thread nD τ).loc main_arg3)
abbrev argR : S128.Idx → EReal := m ((c.tc : Thread nD τ).loc main_arg4)

theorem idxX : ∀ t : Fin cfg0.N, win0_4.index t = ![t.val / 8, 0, t.val % 8] :=
  (by decide +kernel : ∀ t : Fin grid0.N, win0_4.index t = ![t.val / 8, 0, t.val % 8])

/-- The block of samples of a point. -/
theorem blkX (t : Fin cfg0.N) (b : Fin 8) (f : Fin 128) (q : Fin 256) (h : 8 * (t.val / 8) + b.val < 16) (h' : 256 * (t.val % 8) + q.val < 2048) :
    iblk m c 4 t (ix3 b f q) = argX m c (ix3 ⟨8 * (t.val / 8) + b.val, h⟩ f ⟨256 * (t.val % 8) + q.val, h'⟩) := by
  blk_ext [iblk, V, idxX t]

theorem blkS (t : Fin cfg0.N) (k : Fin 10) : iblk m c 0 t (ix2 0 k) = argS m c (ix1 k) := by
  blk_simp [iblk]; entry_read; pointwise; blk_ext []
  have e : win0_0.index t 1 = 0 := rfl
  omega

theorem blkA (t : Fin cfg0.N) (f : Fin 128) : iblk m c 1 t (ix2 0 f) = argA m c (ix1 f) := by
  blk_simp [iblk]; entry_read; pointwise; blk_ext []
  have e : win0_1.index t 1 = 0 := rfl
  omega

theorem blkD (t : Fin cfg0.N) (f : Fin 128) : iblk m c 2 t (ix2 0 f) = argD m c (ix1 f) := by
  blk_simp [iblk]; entry_read; pointwise; blk_ext []
  have e : win0_2.index t 1 = 0 := rfl
  omega

theorem blkR (t : Fin cfg0.N) (f : Fin 128) : iblk m c 3 t (ix2 0 f) = argR m c (ix1 f) := by
  blk_simp [iblk]; entry_read; pointwise; blk_ext []
  have e : win0_3.index t 1 = 0 := rfl
  omega

/-- What the precondition says of the five arrays. -/
structure Ok (X : S16x128x2048.Idx → EReal) (S : S10.Idx → EReal) (R : S128.Idx → EReal) (r : Fin 10 → ℝ) : Prop where
  x : ∀ y, 0 ≤ X y
  h0 : ∀ k, 0 ≤ r k
  h1 : ∀ k, r k ≤ 1
  s : ∀ k, Ideal.exp (S (ix1 k)) = (r k : EReal)
  q : ∀ f, Ideal.exp (R (ix1 f)) = (((1 / 4 : ℝ)) : EReal)

/-- Which recording the `b`-th of group `n` is. -/
def recOf (n : ℕ) (b : Fin 8) : Fin 16 := ⟨(8 * n + b.val) % 16, Nat.mod_lt _ (by decide)⟩

/-- The eight recordings of a point's block. -/
def blkSig (n : ℕ) (b : Fin 8) (f : Fin 128) : ℕ → EReal := samples (argX m c) (recOf (n / 8) b) f

/-- A point's sample block holds the samples of its recordings. -/
theorem samplesAt (t : Fin cfg0.N) (b : Fin 8) (f : Fin 128) (q : Fin 256) :
    iblk m c 4 t (ix3 b f q) = blkSig m c t.val b f (256 * (t.val % 8) + q.val) := by
  have ht : t.val < 16 := lt_of_lt_of_eq t.isLt N_0
  rw [blkX m c t b f q (by omega) (by omega)]
  unfold blkSig
  rw [samples_of_lt (argX m c) _ f ⟨256 * (t.val % 8) + q.val, by omega⟩]
  congr 2
  exact Fin.ext (Nat.mod_eq_of_lt (by omega)).symm

section Fold
variable {r : Fin 10 → ℝ} (ok : Ok (argX m c) (argS m c) (argR m c) r)
include ok

/-- A point that starts a run of time blocks. -/
theorem first (t : Fin cfg0.N) (h : t.val % 8 = 0) : Left r (blkSig m c t.val) (iblk m c 1 t) (iblk m c 2 t) (iblk m c 3 t) (256 * (t.val % 8))
    (outsAt0 m c t.val t.isLt).1 (outsAt0 m c t.val t.isLt).2.1 (outsAt0 m c t.val t.isLt).2.2 := by
  have e0 : 256 * (t.val % 8) = 0 := by omega
  rw [outsAt0_A m c t h]
  dsimp only
  rw [e0]
  exact caseA ok.h0 ok.h1 (fun b f => samples_nonneg ok.x _ f) c _ _ _ _ _ _ _ _ _ _ _ _ _ _ _ _ _ _ _ _ _ _
    (fun k => by rw [blkS]; exact ok.s k) (fun f => by rw [blkR]; exact ok.q f) _ (fun b f q => by rw [samplesAt, e0]; rfl)

/-- A point that continues one, from what the point before it left. -/
theorem next (t : Fin cfg0.N) (h : ¬ t.val % 8 = 0) (n : ℕ) (hn : n < cfg0.N) (e : t.val = n + 1)
    (ih : Left r (blkSig m c n) (iblk m c 1 ⟨n, hn⟩) (iblk m c 2 ⟨n, hn⟩) (iblk m c 3 ⟨n, hn⟩) (256 * (n % 8))
      (outsAt0 m c n hn).1 (outsAt0 m c n hn).2.1 (outsAt0 m c n hn).2.2) :
    Left r (blkSig m c t.val) (iblk m c 1 t) (iblk m c 2 t) (iblk m c 3 t) (256 * (t.val % 8))
      (outsAt0 m c t.val t.isLt).1 (outsAt0 m c t.val t.isLt).2.1 (outsAt0 m c t.val t.isLt).2.2 := by
  obtain ⟨_, hU, hS⟩ := ih
  have e0 : blkSig m c n = blkSig m c t.val := by
    unfold blkSig
    rw [show n / 8 = t.val / 8 by omega]
  have eT : 256 * (t.val % 8) = 256 * (n % 8) + 255 + 1 := by omega
  have en : (outsAt0 m c (t.val - 1) (Nat.lt_of_le_of_lt (Nat.sub_le _ _) t.isLt)) = outsAt0 m c n hn := by
    congr 1; omega
  rw [outsAt0_B m c t h]
  dsimp only
  rw [en, eT]
  rw [e0] at hS
  exact caseB ok.h0 ok.h1 (fun b f => samples_nonneg ok.x _ f) c _ _ _ _ _ _ _ _ _ _ _ _ _ _ _ _ _ _ _ _ _ _ _ _
    (fun k => by rw [blkS]; exact ok.s k) (fun f => by rw [blkR]; exact ok.q f) _ (fun b f q => by rw [samplesAt, eT]; rfl) hU hS

/-- What every point of the grid leaves. -/
theorem inv : ∀ (n : ℕ) (hn : n < cfg0.N), Left r (blkSig m c n) (iblk m c 1 ⟨n, hn⟩) (iblk m c 2 ⟨n, hn⟩) (iblk m c 3 ⟨n, hn⟩) (256 * (n % 8))
    (outsAt0 m c n hn).1 (outsAt0 m c n hn).2.1 (outsAt0 m c n hn).2.2 := by
  intro n
  induction n with
  | zero =>
    intro hn
    exact first m c ok ⟨0, hn⟩ rfl
  | succ n ih =>
    intro hn
    by_cases h : (n + 1) % 8 = 0
    · exact first m c ok ⟨n + 1, hn⟩ h
    · exact next m c ok ⟨n + 1, hn⟩ h n (by omega) rfl (ih (by omega))

/-- The kernel's result is the common result. -/
theorem kernel_tgt (b : Fin 16) (k : Fin 10) (f : Fin 128) (t : Fin 2048) :
    G5 m c (ix4 b k f t) = tgt (argX m c) (argS m c) (argA m c) (argD m c) (argR m c) b k f t := by
  have hp : pt5Of (ix4 b k f t) = 8 * (b.val / 8) + t.val / 256 := by
    show 8 * (b.val / 8 - 0) + 8 * (k.val / 10 - 0) + 8 * (f.val / 128 - 0) + 1 * (t.val / 256 - 0) = _
    omega
  have hn : pt5Of (ix4 b k f t) < cfg0.N := lt_of_lt_of_eq (by omega : _ < 16) N_0.symm
  have hl : loc5Of (ix4 b k f t) = ix4 ⟨b.val % 8, Nat.mod_lt _ (by decide)⟩ k f ⟨t.val % 256, Nat.mod_lt _ (by decide)⟩ := by
    funext a
    match a with
    | ⟨0, _⟩ => rfl
    | ⟨1, _⟩ => exact Fin.ext (Nat.mod_eq_of_lt k.isLt)
    | ⟨2, _⟩ => exact Fin.ext (Nat.mod_eq_of_lt f.isLt)
    | ⟨3, _⟩ => rfl
  unfold G5
  rw [dif_pos hn, ← outsAt0_sweep m c _ hn, hl]
  refine ((inv m c ok _ hn).1 _ k f _).trans ?_
  have eT : 256 * (pt5Of (ix4 b k f t) % 8) + t.val % 256 = t.val := by omega
  have eB : recOf (pt5Of (ix4 b k f t) / 8) ⟨b.val % 8, Nat.mod_lt _ (by decide)⟩ = b := Fin.ext (by show (8 * (pt5Of (ix4 b k f t) / 8) + b.val % 8) % 16 = b.val; omega)
  dsimp only
  rw [eT, blkA, blkD, blkR]
  unfold blkSig tgt
  rw [eB, ok.s k, samples_of_lt]

end Fold

end Cert.Pcen
end
end
-- ==== Proof.RefStep.lean ====
module

public import proofs.«01_k».proof.Proof.Target
public import proofs.«01_k».proof.Proof.Gen.ReferenceIdeal.Run
public import Idealize.ShloMosaic.Lib.Pointwise
public import Idealize.ShloMosaic.Lib.DynamicIndex
public import Idealize.ShloMosaic.Lib.StableHlo.ReadAt
public import Idealize.ShloMosaic.Lib.WordArith.Masks

/-! One trip of the reference's loop, and the loop's run, at an index. -/

@[expose] public section
set_option backward.proofsInPublic true
noncomputable section
namespace Cert.Pcen.Ref
open Cert.ReferenceIdeal Cert.ReferenceIdeal.Gen Cert.ReferenceIdeal.Value Idealize.ShloMosaic Idealize.ShloMosaic.TcCoe Idealize.ShloMosaic.StableHlo Idealize.SL.Sem

/-- The slice of one time step, read at an index. -/
theorem slice_apply (v : FVec Ideal S2047x16x128 .f32) (start : Fin 3 → Int) (h : S2047x16x128.Slices (fun _ => 0) S1x16x128) (j : Fin 2047)
    (e0 : start 0 = (j.val : Int)) (e1 : start 1 = 0) (e2 : start 2 = 0) (b : Fin 16) (f : Fin 128) :
    Host.dynamicSlice S1x16x128 v start h (ix3 0 b f) = v (ix3 j b f) := by
  have hoff : S2047x16x128.Slices ![j.val, 0, 0] S1x16x128 := ⟨rfl, fun a => by fin_cases a <;> simp <;> omega⟩
  rw [Host.dynamicSlice_eq_extractStridedSlice S1x16x128 v start ![j.val, 0, 0] h hoff (fun a => by fin_cases a <;> assumption)]
  pointwise

/-- The write of one time step, read at an index. -/
theorem write_apply (v : FVec Ideal S2047x10x16x128 .f32) (u : FVec Ideal S1x10x16x128 .f32) (start : Fin 4 → Int)
    (h : S2047x10x16x128.Slices (fun _ => 0) S1x10x16x128) (j : Fin 2047)
    (e0 : start 0 = (j.val : Int)) (e1 : start 1 = 0) (e2 : start 2 = 0) (e3 : start 3 = 0) (l : Fin 2047) (k : Fin 10) (b : Fin 16) (f : Fin 128) :
    Host.dynamicUpdateSlice v u start h (ix4 l k b f) = if l = j then u (ix4 0 k b f) else v (ix4 l k b f) := by
  have hoff : S2047x10x16x128.Slices ![j.val, 0, 0, 0] S1x10x16x128 := ⟨rfl, fun a => by fin_cases a <;> simp <;> omega⟩
  rw [Host.dynamicUpdateSlice_eq_updateSlice v u start h ![j.val, 0, 0, 0] (fun a => by fin_cases a <;> simp [e0, e1, e2, e3] <;> omega) hoff]
  pointwise
  by_cases e : l = j
  · subst e
    rw [dif_pos ⟨le_refl _, Nat.lt_succ_self _⟩, if_pos rfl]
    exact congrArg (fun z => u (ix4 z k b f)) (Fin.ext (Nat.sub_self _))
  · have : ¬ (j.val ≤ l.val ∧ l.val < j.val + 1) := fun q => e (Fin.ext (by omega))
    rw [dif_neg this, if_neg e]

/-- What the counter reads as before trip `j`. -/
theorem counter_toInt (j : ℕ) (hj : j < 2047) : (Scf.iv 0#32 1#32 j).toInt = (j : Int) := by
  have e : Scf.iv 0#32 1#32 j = BitVec.ofNat 32 j := BitVec.eq_of_toNat_eq (by rw [WordArith.toNat_iv_zero_one j (by omega), BitVec.toNat_ofNat]; omega)
  rw [e]
  exact toInt_ofNat_of_lt (by omega)

variable (V : Valuation τ sig (Elt Ideal))

/-- The five buffers that the loop carries. -/
abbrev cX : S2047x16x128.Idx → EReal := V (Proc.devRef .tc main_v17_0)
abbrev cS : S10x1x1.Idx → EReal := V (Proc.devRef .tc main_v17_1)
abbrev cM : S10x16x128.Idx → EReal := V (Proc.devRef .tc main_v17_3)
abbrev cOut : S2047x10x16x128.Idx → EReal := V (Proc.devRef .tc main_v17_4)
abbrev newM : S10x16x128.Idx → EReal := res_main_while0b_v55 V

/-- The new carried value, read at an index. -/
theorem new_apply (j : Fin 2047) (hw : V (Proc.devRef .tc main_v17_2) = fun _ => Scf.iv 0#32 1#32 j.val) (k : Fin 10) (b : Fin 16) (f : Fin 128) :
    newM V (ix3 k b f) = (1 - cS V (ix3 k 0 0)) * cM V (ix3 k b f) + cS V (ix3 k 0 0) * cX V (ix3 j b f) := by
  have hs := slice_apply (cX V) (fun k => (((![V (Proc.devRef .tc main_v17_2), constantI S_ 32 0#32, constantI S_ 32 0#32] : Fin 3 → (⟨S_, .i32⟩ : BufTy).Contents (Elt Ideal))) k (Shape.Idx.first h_S_)).toInt)
    sliceFits_S2047x16x128_S1x16x128 j (by show BitVec.toInt (V (Proc.devRef .tc main_v17_2) _) = _; rw [hw]; exact counter_toInt _ j.isLt) rfl rfl b f
  unfold newM res_main_while0b_v55
  rw [← hs]
  pointwise
  rfl

/-- What a trip writes, read at an index. -/
theorem out_apply (j : Fin 2047) (hw : V (Proc.devRef .tc main_v17_2) = fun _ => Scf.iv 0#32 1#32 j.val) (l : Fin 2047) (k : Fin 10) (b : Fin 16) (f : Fin 128) :
    (step_main_v17_4 V : S2047x10x16x128.Idx → EReal) (ix4 l k b f) = if l = j then newM V (ix3 k b f) else cOut V (ix4 l k b f) := by
  unfold step_main_v17_4
  refine (write_apply (cOut V) _ _ _ j (by show BitVec.toInt (V (Proc.devRef .tc main_v17_2) _) = _; rw [hw]; exact counter_toInt _ j.isLt) rfl rfl rfl l k b f).trans ?_
  congr 1
  pointwise

section Loop
variable (m : (ℓ : Loc nD τ Cert.ReferenceIdeal.sig) → Buf (Elt Ideal) ℓ) (c : Dev nD)

/-- The five arrays. -/
abbrev refX : S16x128x2048.Idx → EReal := m ((c.tc : Thread nD τ).loc main_arg0)
abbrev refS : S10.Idx → EReal := m ((c.tc : Thread nD τ).loc main_arg1)
abbrev refA : S128.Idx → EReal := m ((c.tc : Thread nD τ).loc main_arg2)
abbrev refD : S128.Idx → EReal := m ((c.tc : Thread nD τ).loc main_arg3)
abbrev refR : S128.Idx → EReal := m ((c.tc : Thread nD τ).loc main_arg4)

/-- The later samples, before the loop. -/
theorem entry_X (j : Fin 2047) (b : Fin 16) (f : Fin 128) : cX (entryContents preI m c) (ix3 j b f) = refX m c (ix3 b f ⟨j.val + 1, by omega⟩) := by
  simp only [cX, entryContents, afterL_cons, afterL_nil]
  after_reads_at
  rw [id_eq]
  pointwise
  exact congrArg (fun z => refX m c (ix3 b f z)) (Fin.ext (Nat.add_comm _ _))

/-- The smoothing factors, before the loop. -/
theorem entry_S (k : Fin 10) : cS (entryContents preI m c) (ix3 k 0 0) = Ideal.exp (refS m c (ix1 k)) := by
  simp only [cS, entryContents, afterL_cons, afterL_nil]
  after_reads_at
  rw [id_eq]
  pointwise

/-- The first samples, before the loop. -/
theorem entry_M (k : Fin 10) (b : Fin 16) (f : Fin 128) : cM (entryContents preI m c) (ix3 k b f) = refX m c (ix3 b f 0) := by
  simp only [cM, entryContents, afterL_cons, afterL_nil]
  after_reads_at
  rw [id_eq]
  pointwise

/-- What holds of the carried buffers after `n` trips. -/
theorem loop_inv : ∀ n : ℕ, n ≤ 2047 →
    (∀ j b f, cX (atK m n c) (ix3 j b f) = refX m c (ix3 b f ⟨j.val + 1, by omega⟩))
    ∧ (∀ k, cS (atK m n c) (ix3 k 0 0) = Ideal.exp (refS m c (ix1 k)))
    ∧ (∀ k b f, cM (atK m n c) (ix3 k b f) = smo (Ideal.exp (refS m c (ix1 k))) (samples (refX m c) b f) n)
    ∧ ∀ (l : Fin 2047) k b f, l.val < n → cOut (atK m n c) (ix4 l k b f) = smo (Ideal.exp (refS m c (ix1 k))) (samples (refX m c) b f) (l.val + 1) := by
  intro n
  induction n with
  | zero =>
    intro _
    exact ⟨entry_X m c, entry_S m c, fun k b f => (entry_M m c k b f).trans (samples_of_lt (refX m c) b f 0).symm, fun l k b f h => absurd h (Nat.not_lt_zero _)⟩
  | succ n ih =>
    intro hn
    obtain ⟨iX, iS, iM, iO⟩ := ih (by omega)
    have tr := trip_agree (atK m n c)
    have hw : atK m n c (Proc.devRef .tc main_v17_2) = fun _ => Scf.iv 0#32 1#32 n := atK_ctr m c n
    have hX : cX (atK m (n + 1) c) = cX (atK m n c) := (tr main_v17_0 (by decide)).trans (STEP_main_v17_0 _)
    have hS : cS (atK m (n + 1) c) = cS (atK m n c) := (tr main_v17_1 (by decide)).trans (STEP_main_v17_1 _)
    have hM : cM (atK m (n + 1) c) = newM (atK m n c) := (tr main_v17_3 (by decide)).trans (STEP_main_v17_3 _)
    have hO : cOut (atK m (n + 1) c) = step_main_v17_4 (atK m n c) := (tr main_v17_4 (by decide)).trans (STEP_main_v17_4 _)
    have new : ∀ k b f, newM (atK m n c) (ix3 k b f) = smo (Ideal.exp (refS m c (ix1 k))) (samples (refX m c) b f) (n + 1) := by
      intro k b f
      rw [new_apply _ ⟨n, by omega⟩ hw, iS, iM, iX, ← samples_of_lt (refX m c) b f ⟨n + 1, by omega⟩]
      rfl
    refine ⟨fun j b f => by rw [hX]; exact iX j b f, fun k => by rw [hS]; exact iS k, fun k b f => by rw [hM]; exact new k b f, fun l k b f hl => ?_⟩
    rw [hO, out_apply _ ⟨n, by omega⟩ hw]
    by_cases e : l = ⟨n, by omega⟩
    · rw [if_pos e, new, e]
    · rw [if_neg e]
      exact iO l k b f (lt_of_le_of_ne (by omega) fun q => e (Fin.ext q))

end Loop

end Cert.Pcen.Ref
end
end
-- ==== Proof.RefVal.lean ====
module

public import proofs.«01_k».proof.Proof.RefStep

/-! The reference's result at an index. -/

@[expose] public section
set_option backward.proofsInPublic true
noncomputable section
namespace Cert.Pcen.Ref
open Cert.ReferenceIdeal Cert.ReferenceIdeal.Gen Cert.ReferenceIdeal.Value Idealize.ShloMosaic Idealize.ShloMosaic.TcCoe Idealize.ShloMosaic.StableHlo Idealize.SL.Sem

section After
variable (V : Valuation τ sig (Elt Ideal))

/-- The buffers that the operations after the loop read. -/
abbrev pM : S10x16x128.Idx → EReal := V (Proc.devRef .tc main_v14)
abbrev pA : S128x1.Idx → EReal := V (Proc.devRef .tc main_v3)
abbrev pD : S128x1.Idx → EReal := V (Proc.devRef .tc main_v5)
abbrev pR : S128x1.Idx → EReal := V (Proc.devRef .tc main_v7)
abbrev pX : S16x128x2048.Idx → EReal := V (Proc.devRef .tc main_arg0)
abbrev result : S16x10x128x2048.Idx → EReal := after hostOps0_1 V (Proc.devRef .tc main_v45)

/-- The first time step as the first of the stack. -/
theorem first_apply (k : Fin 10) (b : Fin 16) (f : Fin 128) :
    (upto hostOps0_1 V 1 (Proc.devRef .tc main_v18) : S1x10x16x128.Idx → EReal) (ix4 0 k b f) = pM V (ix3 k b f) := by
  unfold pM
  show (after _ V (Proc.devRef .tc main_v18) : S1x10x16x128.Idx → EReal) (ix4 0 k b f) = _
  simp only [List.take]
  after_reads_at

/-- The first operation after the loop leaves the stack of the later steps as it is. -/
theorem stack_keep : upto hostOps0_1 V 1 (Proc.devRef .tc main_v17_4) = V (Proc.devRef .tc main_v17_4) := by
  show after _ V (Proc.devRef .tc main_v17_4) = _
  simp only [List.take]
  after_reads_simp

/-- The operations after the loop, read at an index. -/
theorem post_apply (b : Fin 16) (k : Fin 10) (f : Fin 128) (t : Fin 2048) (s : EReal)
    (h0 : t.val = 0 → pM V (ix3 k b f) = s) (h1 : ∀ l : Fin 2047, t.val = l.val + 1 → cOut V (ix4 l k b f) = s) :
    result V (ix4 b k f t) = pcen epsI s (pX V (ix3 b f t)) (pA V (ix2 f 0)) (pD V (ix2 f 0)) (pR V (ix2 f 0)) := by
  unfold result
  after_reads_at
  have e18 : ∀ k b f, (upto hostOps0_1 V 1 (Proc.devRef .tc main_v18) : S1x10x16x128.Idx → EReal) (ix4 0 k b f) = pM V (ix3 k b f) := first_apply V
  have e17 : upto hostOps0_1 V 1 (Proc.devRef .tc main_v17_4) = V (Proc.devRef .tc main_v17_4) := stack_keep V
  have e : (if h : t.val < 1 then (upto hostOps0_1 V 1 (Proc.devRef .tc main_v18) : S1x10x16x128.Idx → EReal) (ix4 ⟨t.val, h⟩ k b f)
      else (upto hostOps0_1 V 1 (Proc.devRef .tc main_v17_4) : S2047x10x16x128.Idx → EReal) (ix4 ⟨t.val - 1, by omega⟩ k b f)) = s := by
    by_cases h : t.val < 1
    · rw [dif_pos h, ← h0 (by omega), ← e18]
      exact congrArg (fun z => (upto hostOps0_1 V 1 (Proc.devRef .tc main_v18) : S1x10x16x128.Idx → EReal) (ix4 z k b f)) (Fin.ext (by show t.val = 0; omega))
    · rw [dif_neg h, e17]
      exact h1 ⟨t.val - 1, by omega⟩ (by show t.val = t.val - 1 + 1; omega)
  exact congrArg (fun z => pcen epsI z (pX V (ix3 b f t)) (pA V (ix2 f 0)) (pD V (ix2 f 0)) (pR V (ix2 f 0))) e

end After

section Loop
variable (m : (ℓ : Loc nD τ Cert.ReferenceIdeal.sig) → Buf (Elt Ideal) ℓ) (c : Dev nD)

/-- A buffer that neither the condition nor the body writes is after the loop as it was before. -/
theorem loop_keep (r : Ref sig .tc) (hc : r ∉ condOps_W) (h0 : r ∉ while0Ops0_W) (h1 : r ∉ while0Ops0_1_W) (h2 : r ∉ while0Ops0_2_W) (h3 : r ∉ while0Ops0_3_W) :
    ∀ n, after condOps (atK m n c) (Proc.devRef .tc r) = after hostOps0 (launchContents m c) (Proc.devRef .tc r) := by
  have hk : ∀ n, atK m n c (Proc.devRef .tc r) = after hostOps0 (launchContents m c) (Proc.devRef .tc r) := by
    intro n
    induction n with
    | zero => rfl
    | succ n ih =>
      rw [show atK m (n + 1) c = afterL bodyI (after condOps (atK m n c)) from rfl]
      simp only [afterL_cons, afterL_nil]
      rw [after_of_writes_sub _ _ while0Ops0_3_writes h3, after_of_writes_sub _ _ while0Ops0_2_writes h2, after_of_writes_sub _ _ while0Ops0_1_writes h1,
        after_of_writes_sub _ _ while0Ops0_writes h0, after_of_writes_sub _ _ condOps_writes hc, ih]
  intro n
  rw [after_of_writes_sub _ _ condOps_writes hc, hk]

theorem pre_M (k : Fin 10) (b : Fin 16) (f : Fin 128) : pM (after hostOps0 (launchContents m c)) (ix3 k b f) = refX m c (ix3 b f 0) := by
  unfold pM
  after_reads_at
theorem pre_A (f : Fin 128) : pA (after hostOps0 (launchContents m c)) (ix2 f 0) = Ideal.exp (refA m c (ix1 f)) := by
  unfold pA
  after_reads_at
theorem pre_D (f : Fin 128) : pD (after hostOps0 (launchContents m c)) (ix2 f 0) = Ideal.exp (refD m c (ix1 f)) := by
  unfold pD
  after_reads_at
theorem pre_R (f : Fin 128) : pR (after hostOps0 (launchContents m c)) (ix2 f 0) = Ideal.exp (refR m c (ix1 f)) := by
  unfold pR
  after_reads_at
theorem pre_X : pX (after hostOps0 (launchContents m c)) = refX m c := by
  unfold pX
  after_reads_simp

/-- The reference's result is the common result. -/
theorem ref_tgt (b : Fin 16) (k : Fin 10) (f : Fin 128) (t : Fin 2048) :
    result (after condOps (atK m 2047 c)) (ix4 b k f t) = tgt (refX m c) (refS m c) (refA m c) (refD m c) (refR m c) b k f t := by
  obtain ⟨_, _, _, iO⟩ := loop_inv m c 2047 (le_refl _)
  have keep := fun r hc h0 h1 h2 h3 => loop_keep m c r hc h0 h1 h2 h3 2047
  have eM : pM (after condOps (atK m 2047 c)) = pM _ := keep main_v14 (by decide) (by decide) (by decide) (by decide) (by decide)
  have eA : pA (after condOps (atK m 2047 c)) = pA _ := keep main_v3 (by decide) (by decide) (by decide) (by decide) (by decide)
  have eD : pD (after condOps (atK m 2047 c)) = pD _ := keep main_v5 (by decide) (by decide) (by decide) (by decide) (by decide)
  have eR : pR (after condOps (atK m 2047 c)) = pR _ := keep main_v7 (by decide) (by decide) (by decide) (by decide) (by decide)
  have eX : pX (after condOps (atK m 2047 c)) = pX _ := keep main_arg0 (by decide) (by decide) (by decide) (by decide) (by decide)
  have eO : cOut (after condOps (atK m 2047 c)) = cOut (atK m 2047 c) := cond_keeps _ main_v17_4 (by decide)
  rw [post_apply _ b k f t (smo (Ideal.exp (refS m c (ix1 k))) (samples (refX m c) b f) t.val) (fun h => ?_) (fun l h => ?_)]
  · rw [eA, eD, eR, eX, pre_A, pre_D, pre_R, pre_X]
    rfl
  · rw [eM, pre_M, h]
    exact (samples_of_lt (refX m c) b f 0).symm
  · rw [eO, iO l k b f l.isLt, h]

/-- An argument's buffer at the end of the run. -/
theorem arg_keep (r : Ref sig .tc) (hc : r ∉ condOps_W) (h0 : r ∉ while0Ops0_W) (h1 : r ∉ while0Ops0_1_W) (h2 : r ∉ while0Ops0_2_W) (h3 : r ∉ while0Ops0_3_W)
    (hpre : after hostOps0 (launchContents m c) (Proc.devRef .tc r) = m ((c.tc : Thread nD τ).loc r))
    (hpost : ∀ V : Valuation τ sig (Elt Ideal), after hostOps0_1 V (Proc.devRef .tc r) = V (Proc.devRef .tc r)) :
    finalContents condOps preI bodyI postI 2047 m c (Proc.devRef .tc r) = m ((c.tc : Thread nD τ).loc r) := by
  show after hostOps0_1 (after condOps (atK m 2047 c)) (Proc.devRef .tc r) = _
  rw [hpost, loop_keep m c r hc h0 h1 h2 h3, hpre]

theorem keep0 : finalContents condOps preI bodyI postI 2047 m c (Proc.devRef .tc main_arg0) = m ((c.tc : Thread nD τ).loc main_arg0) :=
  arg_keep m c main_arg0 (by decide) (by decide) (by decide) (by decide) (by decide) (by after_reads_simp) (fun V => by after_reads_simp)
theorem keep1 : finalContents condOps preI bodyI postI 2047 m c (Proc.devRef .tc main_arg1) = m ((c.tc : Thread nD τ).loc main_arg1) :=
  arg_keep m c main_arg1 (by decide) (by decide) (by decide) (by decide) (by decide) (by after_reads_simp) (fun V => by after_reads_simp)
theorem keep2 : finalContents condOps preI bodyI postI 2047 m c (Proc.devRef .tc main_arg2) = m ((c.tc : Thread nD τ).loc main_arg2) :=
  arg_keep m c main_arg2 (by decide) (by decide) (by decide) (by decide) (by decide) (by after_reads_simp) (fun V => by after_reads_simp)
theorem keep3 : finalContents condOps preI bodyI postI 2047 m c (Proc.devRef .tc main_arg3) = m ((c.tc : Thread nD τ).loc main_arg3) :=
  arg_keep m c main_arg3 (by decide) (by decide) (by decide) (by decide) (by decide) (by after_reads_simp) (fun V => by after_reads_simp)
theorem keep4 : finalContents condOps preI bodyI postI 2047 m c (Proc.devRef .tc main_arg4) = m ((c.tc : Thread nD τ).loc main_arg4) :=
  arg_keep m c main_arg4 (by decide) (by decide) (by decide) (by decide) (by decide) (by after_reads_simp) (fun V => by after_reads_simp)

/-- The reference's run: its result and its arguments at the end. -/
theorem ref_run (ρ : Dev nD → PrngReg) : θ_run (defs (F := Ideal)) (onTc (τ := τ) (main (F := Ideal))) ⟨m, fun _ => 0, ρ⟩
    (fun r => ∀ c : Dev nD, r.2.mem ((c.tc : Thread nD τ).loc main_v45) = result (after condOps (atK m 2047 c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun _ h c => ⟨h c main_v45 rfl, (h c main_arg0 rfl).trans (keep0 m c), (h c main_arg1 rfl).trans (keep1 m c),
    (h c main_arg2 rfl).trans (keep2 m c), (h c main_arg3 rfl).trans (keep3 m c), (h c main_arg4 rfl).trans (keep4 m c)⟩) (run_fold m ρ)

end Loop

end Cert.Pcen.Ref
end
end
-- ==== Proof.Claims.lean ====
module

public import proofs.«01_k».proof.Defs
public import proofs.«01_k».proof.Proof.KRun
public import proofs.«01_k».proof.Proof.RefVal
public import proofs.«01_k».proof.Proof.Gen.Kernel.Frame
public import proofs.«01_k».proof.Proof.Gen.KernelIdeal.Frame
public import Idealize.ShloMosaic.Lib.Quiescent

/-! The claims. -/

@[expose] public section
set_option backward.proofsInPublic true
noncomputable section
namespace Cert.Pcen
open Cert.Pcen.Ref Idealize.ShloMosaic Idealize.ShloMosaic.TcCoe Idealize.SL.Sem

/-- The side conditions that the precondition's program states. -/
theorem preFacts : Cert.Pre_admissible.Facts := ⟨by decide, by decide, by decide⟩

/-- A comparison that came out one, at a predicate that decides `p`. -/
theorem of_one {p : Prop} [Decidable p] (h : BitVec.ofBool (decide p) = 1#1) : p := by
  by_contra hp
  rw [decide_eq_false hp] at h
  exact absurd h (by decide)

/-- The literal that `exp r_log` is compared with is a quarter. -/
theorem ofBits_quarter : Ideal.ofBits .f32 0x3E800000#32 = ((1 / 4 : ℝ) : EReal) := by
  simp [Ideal.ofBits, Ideal.ieee, -EReal.coe_mul]
  norm_num

/-- What the precondition says of the five arrays, as real inequalities. -/
theorem ok_of_pre [Cert.Pre_admissible.Facts] (m : (ℓ : Loc Cert.KernelIdeal.nD Cert.KernelIdeal.τ Cert.KernelIdeal.sig) → Buf (Elt Ideal) ℓ) (h : Cert.Pre_KernelIdeal_admissible m)
    (c : Dev Cert.KernelIdeal.nD) : ∃ r : Fin 10 → ℝ, Ok (argX m c) (argS m c) (argR m c) r := by
  obtain ⟨hx, hs, hr⟩ := h c
  have px : ∀ y, 0 ≤ argX m c y := fun y => by
    have := of_one (congrFun hx y)
    rwa [show (broadcastInDim _ _ _ _ y : EReal) = Ideal.ofBits .f32 0x00000000#32 from rfl, Ideal.ofBits_zero_f32] at this
  have ps : ∀ k, argS m c (ix1 k) ≤ 0 := fun k => by
    have := of_one (congrFun hs (ix1 k))
    rwa [show (broadcastInDim _ _ _ _ (ix1 k) : EReal) = Ideal.ofBits .f32 0x00000000#32 from rfl, Ideal.ofBits_zero_f32] at this
  have pr : ∀ f, Ideal.exp (argR m c (ix1 f)) = ((1 / 4 : ℝ) : EReal) := fun f => by
    have := of_one (congrFun hr (ix1 f))
    rwa [show (broadcastInDim _ _ _ _ (ix1 f) : EReal) = Ideal.ofBits .f32 0x3E800000#32 from rfl, ofBits_quarter] at this
  choose r h0 h1 h2 using fun k => exp_unit (ps k)
  exact ⟨r, px, h0, h1, h2, pr⟩

/-- The idealized kernel runs, leaves its arguments as they are and every counter at zero. -/
theorem frame_kernel_ideal : Cert.quiescent_KernelIdeal (hKernelIdeal := Cert.KernelIdeal.Gen.facts) := fun m ρ _ => Cert.KernelIdeal.Gen.frame m ρ

/-- The reference runs, leaves its arguments as they are and every counter at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩) (ref_run m ρ)

/-- The named constant has the value `1 / log 2`. -/
theorem preserved : Cert.preserves_Kernel_KernelIdeal :=
  IdealRules.named_const.statement Cert.KernelIdeal.κ "inv_ln2" .f32 0x3FB8AA3B#32 (((Real.log 2)⁻¹ : ℝ) : EReal) rfl

/-- The two programs' results are the same arrays. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    {r : Fin 10 → ℝ} (ok : Ok (argX m c) (argS m c) (argR m c) r)
    (e0 : refX m' c = argX m c) (e1 : refS m' c = argS m c) (e2 : refA m' c = argA m c) (e3 : refD m' c = argD m c) (e4 : refR m' c = argR m c) :
    result (StableHlo.after Cert.ReferenceIdeal.Value.condOps (Cert.ReferenceIdeal.Value.atK m' 2047 c)) = Cert.KernelIdeal.Value.G5 m c := by
  funext i
  have ei : i = ix4 (i 0) (i 1) (i 2) (i 3) := eq_ix4 i
  rw [ei]
  exact (ref_tgt m' c (i 0) (i 1) (i 2) (i 3)).trans ((by rw [e0, e1, e2, e3, e4]) : _ = _) |>.trans (kernel_tgt m c ok (i 0) (i 1) (i 2) (i 3)).symm

/-- From memories that agree on the arguments both programs end with the same result. -/
theorem algebra [hP : Cert.Pre_admissible.Facts] :
    Cert.algebraic_KernelIdeal_ReferenceIdeal_pre_admissible (hKernelIdeal := Cert.KernelIdeal.Gen.facts) (hReferenceIdeal := Cert.ReferenceIdeal.Gen.facts) := by
  intro m ρ m' ρ' hpre hagree
  refine ⟨fun c => Cert.KernelIdeal.Value.G5 m c, Cert.KernelIdeal.Value.run (F := Ideal) m ρ, ?_⟩
  refine (θ_run Cert.ReferenceIdeal.defs _ _).mono (fun _ h c => ⟨(h c).1.trans ?_, (h c).2⟩) (ref_run m' ρ')
  obtain ⟨r, ok⟩ := ok_of_pre m hpre c
  obtain ⟨e0, e1, e2, e3, e4⟩ := hagree c
  exact same m m' c ok e0 e1 e2 e3 e4

end Cert.Pcen
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pcen.preFacts,
    fun m ρ _ => Cert.Kernel.Gen.frame m ρ, Cert.Pcen.frame_kernel_ideal, fun m ρ _ => Cert.KernelIdeal.Gen.frame m ρ,
    Cert.Pcen.frame_reference, fun m ρ _ => Cert.Pcen.frame_reference m ρ trivial, Cert.Pcen.preserved, Cert.Pcen.algebra (hP := Cert.Pcen.preFacts)⟩

end Cert.Proof

end
